-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S4x8192x1024 : Shape := ⟨3, ![4, 8192, 1024]⟩
abbrev S3x2048x1024 : Shape := ⟨3, ![3, 2048, 1024]⟩
abbrev S512x8192 : Shape := ⟨2, ![512, 8192]⟩
abbrev S512x1024 : Shape := ⟨2, ![512, 1024]⟩
abbrev S256x8192 : Shape := ⟨2, ![256, 8192]⟩
abbrev S2048x1024 : Shape := ⟨2, ![2048, 1024]⟩
abbrev S3 : Shape := ⟨1, ![3]⟩
abbrev S5 : Shape := ⟨1, ![5]⟩
abbrev S_ : Shape := ⟨0, ![]⟩
abbrev S1x2048x1024 : Shape := ⟨3, ![1, 2048, 1024]⟩
abbrev S1 : Shape := ⟨1, ![1]⟩
abbrev S1x4096x1024 : Shape := ⟨3, ![1, 4096, 1024]⟩
abbrev S4096x1024 : Shape := ⟨2, ![4096, 1024]⟩
abbrev S1x8192x1024 : Shape := ⟨3, ![1, 8192, 1024]⟩
abbrev S1x512x1024 : Shape := ⟨3, ![1, 512, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S8192x1024, .f32⟩
  | .hbm, ⟨2, _⟩ => ⟨S8192x1024, .f32⟩
  | .hbm, ⟨3, _⟩ => ⟨S4x8192x1024, .bf16⟩
  | .hbm, ⟨4, _⟩ => ⟨S2048x8192, .bf16⟩
  | .hbm, ⟨5, _⟩ => ⟨S3x2048x1024, .f32⟩
  | .local _ .vmem, ⟨0, _⟩ => ⟨S512x8192, .bf16⟩
  | .local _ .vmem, ⟨1, _⟩ => ⟨S512x1024, .f32⟩
  | .local _ .vmem, ⟨2, _⟩ => ⟨S256x8192, .f32⟩
  | .local _ .vmem, ⟨3, _⟩ => ⟨S2048x1024, .f32⟩
  | .local _ .vmem, ⟨4, _⟩ => ⟨S2048x1024, .bf16⟩
  | .local _ .vmem, ⟨5, _⟩ => ⟨S8192x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let c0_i32_22 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_35 : BitVec 32 := 2048#32
  let c0_i32_36 : BitVec 32 := 0#32
  ![v2.toNat, 2048, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_43 : BitVec 32 := 0#32
  let c0_i32_44 : BitVec 32 := 0#32
  ![v2.toNat, 0, 0]
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_41 : BitVec 32 := 1#32
  let v44 : BitVec 32 := Scalar.muli v6 c1_i32_41
  let v45 : BitVec 32 := Scalar.addi c0_i32_42 v44
  v45.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_57 : BitVec 32 := 4096#32
  let c0_i32_58 : BitVec 32 := 0#32
  ![v2.toNat, 4096, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6144_i32_71 : BitVec 32 := 6144#32
  let c0_i32_72 : BitVec 32 := 0#32
  ![v2.toNat, 6144, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_79 : BitVec 32 := 4096#32
  let c0_i32_80 : BitVec 32 := 0#32
  ![v2.toNat, 4096, 0]
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_77 : BitVec 32 := 1#32
  let v84 : BitVec 32 := Scalar.muli v4 c1_i32_77
  let v85 : BitVec 32 := Scalar.addi c0_i32_78 v84
  v85.toNat
@[reducible] def k0_t1_loop : Scf.Loop 32 :=
  let c0_i32_204 : BitVec 32 := 0#32
  let c4_i32_205 : BitVec 32 := 4#32
  let v182 : BitVec 32 := Scalar.addi c0_i32_204 c4_i32_205
  let c1_i32_206 : BitVec 32 := 1#32
  ⟨c0_i32_204, v182, c1_i32_206⟩
def k0_off7 (k0_t1 : Fin k0_t1_loop.trips) : Fin 2 → Nat :=
  let c0_i32_204 : BitVec 32 := 0#32
  let c1_i32_206 : BitVec 32 := 1#32
  let arg21 : BitVec 32 := Scf.iv c0_i32_204 c1_i32_206 k0_t1
  let c512_i32_501 : BitVec 32 := 512#32
  let v453 : BitVec 32 := Scalar.muli arg21 c512_i32_501
  let c0_i32_502 : BitVec 32 := 0#32
  ![v453.toNat, 0]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_514 : BitVec 32 := 2048#32
  let v475 : BitVec 32 := Scalar.muli v2 c2048_i32_514
  let c0_i32_204 : BitVec 32 := 0#32
  let c1_i32_206 : BitVec 32 := 1#32
  let arg21 : BitVec 32 := Scf.iv c0_i32_204 c1_i32_206 k0_t1
  let c512_i32_515 : BitVec 32 := 512#32
  let v476 : BitVec 32 := Scalar.muli arg21 c512_i32_515
  let v477 : BitVec 32 := Scalar.addi v475 v476
  let c0_i32_516 : BitVec 32 := 0#32
  ![v477.toNat, 0]
def k0_off9 (d0 : Dev nD) (c3_i32_238 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v211 : BitVec 32 := Scalar.addi v2 c3_i32_238
  let c4_i32_239 : BitVec 32 := 4#32
  let v212 : BitVec 32 := Scalar.remsi v211 c4_i32_239
  let c0_i32_246 : BitVec 32 := 0#32
  let c0_i32_247 : BitVec 32 := 0#32
  ![v212.toNat, 0, 0]
def k0_dev5 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_244 : BitVec 32 := 1#32
  let v215 : BitVec 32 := Scalar.muli v6 c1_i32_244
  let v216 : BitVec 32 := Scalar.addi c0_i32_245 v215
  v216.toNat
def k0_off10 (d0 : Dev nD) (c1_i32_240 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v213 : BitVec 32 := Scalar.addi v2 c1_i32_240
  let c4_i32_241 : BitVec 32 := 4#32
  let v214 : BitVec 32 := Scalar.remsi v213 c4_i32_241
  let c4096_i32_254 : BitVec 32 := 4096#32
  let c0_i32_255 : BitVec 32 := 0#32
  ![v214.toNat, 4096, 0]
def k0_dev6 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_252 : BitVec 32 := 1#32
  let v225 : BitVec 32 := Scalar.muli v4 c1_i32_252
  let v226 : BitVec 32 := Scalar.addi c0_i32_253 v225
  v226.toNat
def k0_dev7 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_290 : BitVec 32 := 1#32
  let v263 : BitVec 32 := Scalar.muli v6 c1_i32_290
  let v264 : BitVec 32 := Scalar.addi c0_i32_291 v263
  v264.toNat
def k0_dev8 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_298 : BitVec 32 := 1#32
  let v273 : BitVec 32 := Scalar.muli v4 c1_i32_298
  let v274 : BitVec 32 := Scalar.addi c0_i32_299 v273
  v274.toNat
def k0_off11 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c2_i32
  let c4_i32_3 : BitVec 32 := 4#32
  let v8 : BitVec 32 := Scalar.remsi v7 c4_i32_3
  let c0_i32_304 : BitVec 32 := 0#32
  let c0_i32_305 : BitVec 32 := 0#32
  ![v8.toNat, 0, 0]
@[reducible] def k0_t2_loop : Scf.Loop 32 :=
  let c0_i32_308 : BitVec 32 := 0#32
  let c4_i32_309 : BitVec 32 := 4#32
  let v287 : BitVec 32 := Scalar.addi c0_i32_308 c4_i32_309
  let c1_i32_310 : BitVec 32 := 1#32
  ⟨c0_i32_308, v287, c1_i32_310⟩
def k0_off12 (k0_t2 : Fin k0_t2_loop.trips) : Fin 2 → Nat :=
  let c0_i32_308 : BitVec 32 := 0#32
  let c1_i32_310 : BitVec 32 := 1#32
  let arg21 : BitVec 32 := Scf.iv c0_i32_308 c1_i32_310 k0_t2
  let c512_i32_501 : BitVec 32 := 512#32
  let v453 : BitVec 32 := Scalar.muli arg21 c512_i32_501
  let c0_i32_502 : BitVec 32 := 0#32
  ![v453.toNat, 0]
def k0_off13 (k0_t2 : Fin k0_t2_loop.trips) : Fin 3 → Nat :=
  let c1_i32_515 : BitVec 32 := 1#32
  let c0_i32_308 : BitVec 32 := 0#32
  let c1_i32_310 : BitVec 32 := 1#32
  let arg21 : BitVec 32 := Scf.iv c0_i32_308 c1_i32_310 k0_t2
  let c512_i32_514 : BitVec 32 := 512#32
  let v475 : BitVec 32 := Scalar.muli arg21 c512_i32_514
  let c0_i32_516 : BitVec 32 := 0#32
  ![1, v475.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_312 : BitVec 32 := 2048#32
  let v288 : BitVec 32 := Scalar.muli v2 c2048_i32_312
  let c0_i32_313 : BitVec 32 := 0#32
  let v289 : BitVec 32 := Scalar.addi v288 c0_i32_313
  let c0_i32_319 : BitVec 32 := 0#32
  ![v289.toNat, 0]
def k0_dev9 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_317 : BitVec 32 := 1#32
  let v290 : BitVec 32 := Scalar.muli v8 c1_i32_317
  let v291 : BitVec 32 := Scalar.addi c0_i32_318 v290
  v291.toNat
@[reducible] def k0_t3_loop : Scf.Loop 32 :=
  let c0_i32_356 : BitVec 32 := 0#32
  let c2_i32_357 : BitVec 32 := 2#32
  let v331 : BitVec 32 := Scalar.addi c0_i32_356 c2_i32_357
  let c1_i32_358 : BitVec 32 := 1#32
  ⟨c0_i32_356, v331, c1_i32_358⟩
def k0_off15 (k0_t3 : Fin k0_t3_loop.trips) : Fin 2 → Nat :=
  let c0_i32_356 : BitVec 32 := 0#32
  let c1_i32_358 : BitVec 32 := 1#32
  let arg21 : BitVec 32 := Scf.iv c0_i32_356 c1_i32_358 k0_t3
  let c512_i32_501 : BitVec 32 := 512#32
  let v453 : BitVec 32 := Scalar.muli arg21 c512_i32_501
  let c0_i32_502 : BitVec 32 := 0#32
  ![v453.toNat, 0]
def k0_off16 (k0_t3 : Fin k0_t3_loop.trips) : Fin 3 → Nat :=
  let c0_i32_515 : BitVec 32 := 0#32
  let c0_i32_356 : BitVec 32 := 0#32
  let c1_i32_358 : BitVec 32 := 1#32
  let arg21 : BitVec 32 := Scf.iv c0_i32_356 c1_i32_358 k0_t3
  let c512_i32_514 : BitVec 32 := 512#32
  let v475 : BitVec 32 := Scalar.muli arg21 c512_i32_514
  let c0_i32_516 : BitVec 32 := 0#32
  ![0, v475.toNat, 0]
def k0_off17 (d0 : Dev nD) (c0_i32_361 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_360 : BitVec 32 := 2048#32
  let v332 : BitVec 32 := Scalar.muli v2 c2048_i32_360
  let v333 : BitVec 32 := Scalar.addi v332 c0_i32_361
  let c0_i32_367 : BitVec 32 := 0#32
  ![v333.toNat, 0]
def k0_dev10 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_365 : BitVec 32 := 1#32
  let v334 : BitVec 32 := Scalar.muli v6 c1_i32_365
  let v335 : BitVec 32 := Scalar.addi c0_i32_366 v334
  v335.toNat
@[reducible] def k0_t4_loop : Scf.Loop 32 :=
  let c2_i32_370 : BitVec 32 := 2#32
  let c2_i32_371 : BitVec 32 := 2#32
  let v343 : BitVec 32 := Scalar.addi c2_i32_370 c2_i32_371
  let c1_i32_372 : BitVec 32 := 1#32
  ⟨c2_i32_370, v343, c1_i32_372⟩
def k0_off18 (k0_t4 : Fin k0_t4_loop.trips) : Fin 2 → Nat :=
  let c2_i32_370 : BitVec 32 := 2#32
  let c1_i32_372 : BitVec 32 := 1#32
  let arg21 : BitVec 32 := Scf.iv c2_i32_370 c1_i32_372 k0_t4
  let c512_i32_501 : BitVec 32 := 512#32
  let v453 : BitVec 32 := Scalar.muli arg21 c512_i32_501
  let c0_i32_502 : BitVec 32 := 0#32
  ![v453.toNat, 0]
def k0_off19 (k0_t4 : Fin k0_t4_loop.trips) : Fin 3 → Nat :=
  let c0_i32_515 : BitVec 32 := 0#32
  let c2_i32_370 : BitVec 32 := 2#32
  let c1_i32_372 : BitVec 32 := 1#32
  let arg21 : BitVec 32 := Scf.iv c2_i32_370 c1_i32_372 k0_t4
  let c512_i32_514 : BitVec 32 := 512#32
  let v475 : BitVec 32 := Scalar.muli arg21 c512_i32_514
  let c0_i32_516 : BitVec 32 := 0#32
  ![0, v475.toNat, 0]
def k0_dev11 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_379 : BitVec 32 := 1#32
  let v346 : BitVec 32 := Scalar.muli v6 c1_i32_379
  let v347 : BitVec 32 := Scalar.addi c0_i32_380 v346
  v347.toNat
@[reducible] def k0_t5_loop : Scf.Loop 32 :=
  let c0_i32_388 : BitVec 32 := 0#32
  let c2_i32_389 : BitVec 32 := 2#32
  let v359 : BitVec 32 := Scalar.addi c0_i32_388 c2_i32_389
  let c1_i32_390 : BitVec 32 := 1#32
  ⟨c0_i32_388, v359, c1_i32_390⟩
def k0_off20 (k0_t5 : Fin k0_t5_loop.trips) : Fin 2 → Nat :=
  let c0_i32_388 : BitVec 32 := 0#32
  let c1_i32_390 : BitVec 32 := 1#32
  let arg21 : BitVec 32 := Scf.iv c0_i32_388 c1_i32_390 k0_t5
  let c512_i32_501 : BitVec 32 := 512#32
  let v453 : BitVec 32 := Scalar.muli arg21 c512_i32_501
  let c0_i32_502 : BitVec 32 := 0#32
  ![v453.toNat, 0]
def k0_off21 (k0_t5 : Fin k0_t5_loop.trips) : Fin 3 → Nat :=
  let c2_i32_515 : BitVec 32 := 2#32
  let c0_i32_388 : BitVec 32 := 0#32
  let c1_i32_390 : BitVec 32 := 1#32
  let arg21 : BitVec 32 := Scf.iv c0_i32_388 c1_i32_390 k0_t5
  let c512_i32_514 : BitVec 32 := 512#32
  let v475 : BitVec 32 := Scalar.muli arg21 c512_i32_514
  let c0_i32_516 : BitVec 32 := 0#32
  ![2, v475.toNat, 0]
def k0_dev12 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_397 : BitVec 32 := 1#32
  let v362 : BitVec 32 := Scalar.muli v4 c1_i32_397
  let v363 : BitVec 32 := Scalar.addi c0_i32_398 v362
  v363.toNat
@[reducible] def k0_t6_loop : Scf.Loop 32 :=
  let c2_i32_402 : BitVec 32 := 2#32
  let c2_i32_403 : BitVec 32 := 2#32
  let v371 : BitVec 32 := Scalar.addi c2_i32_402 c2_i32_403
  let c1_i32_404 : BitVec 32 := 1#32
  ⟨c2_i32_402, v371, c1_i32_404⟩
def k0_off22 (k0_t6 : Fin k0_t6_loop.trips) : Fin 2 → Nat :=
  let c2_i32_402 : BitVec 32 := 2#32
  let c1_i32_404 : BitVec 32 := 1#32
  let arg21 : BitVec 32 := Scf.iv c2_i32_402 c1_i32_404 k0_t6
  let c512_i32_501 : BitVec 32 := 512#32
  let v453 : BitVec 32 := Scalar.muli arg21 c512_i32_501
  let c0_i32_502 : BitVec 32 := 0#32
  ![v453.toNat, 0]
def k0_off23 (k0_t6 : Fin k0_t6_loop.trips) : Fin 3 → Nat :=
  let c2_i32_515 : BitVec 32 := 2#32
  let c2_i32_402 : BitVec 32 := 2#32
  let c1_i32_404 : BitVec 32 := 1#32
  let arg21 : BitVec 32 := Scf.iv c2_i32_402 c1_i32_404 k0_t6
  let c512_i32_514 : BitVec 32 := 512#32
  let v475 : BitVec 32 := Scalar.muli arg21 c512_i32_514
  let c0_i32_516 : BitVec 32 := 0#32
  ![2, v475.toNat, 0]
def k0_dev13 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_411 : BitVec 32 := 1#32
  let v374 : BitVec 32 := Scalar.muli v4 c1_i32_411
  let v375 : BitVec 32 := Scalar.addi c0_i32_412 v374
  v375.toNat
def k0_off24 (d0 : Dev nD) (c3_i32 : BitVec 32) (c0_i32_452 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c2048_i32_451 : BitVec 32 := 2048#32
  let v408 : BitVec 32 := Scalar.muli v4 c2048_i32_451
  let v409 : BitVec 32 := Scalar.addi v408 c0_i32_452
  let c0_i32_458 : BitVec 32 := 0#32
  ![v409.toNat, 0]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c2048_i32_471 : BitVec 32 := 2048#32
  let v426 : BitVec 32 := Scalar.muli v8 c2048_i32_471
  let c0_i32_472 : BitVec 32 := 0#32
  let v427 : BitVec 32 := Scalar.addi v426 c0_i32_472
  let c0_i32_478 : BitVec 32 := 0#32
  ![v427.toNat, 0]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Proto.lean ====
/-
The protocol of the kernel: the neighbours of a device, the pieces of buffers that change hands, the canonical contents
of every buffer as functions of the launch memory, and the schedule of the semaphore cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The algebra: the pipeline library's copy, the rounds of the shared cells, the counters of local transfers -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The ring of four devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem opp_opp (c : Dev nD) : opp (opp c) = c := by revert c; decide
theorem nxt_nxt (c : Dev nD) : nxt (nxt c) = opp c := by revert c; decide
theorem prv_prv (c : Dev nD) : prv (prv c) = opp c := by revert c; decide
theorem prv_opp (c : Dev nD) : prv (opp c) = nxt c := by revert c; decide
theorem nxt_opp (c : Dev nD) : nxt (opp c) = prv c := by revert c; decide
theorem opp_prv (c : Dev nD) : opp (prv c) = nxt c := by revert c; decide
theorem opp_nxt (c : Dev nD) : opp (nxt c) = prv c := by revert c; decide

/-! ## Boxes of indices and held pieces -/

/-- The indices from `off` on, `size a` of them along each axis. -/
def box {s : Shape} (off size : Fin s.rank → ℕ) : Finset s.Idx :=
  Finset.univ.filter fun i => ∀ a, off a ≤ (i a : ℕ) ∧ (i a : ℕ) < off a + size a

theorem mem_box {s : Shape} {off size : Fin s.rank → ℕ} {i : s.Idx} :
    i ∈ box off size ↔ ∀ a, off a ≤ (i a : ℕ) ∧ (i a : ℕ) < off a + size a := by simp [box]

theorem set_unit {s : Shape} (off size : Fin s.rank → ℕ) (inb) :
    (Rect.unit off size inb : Rect s).set = box off size := by
  ext i; rw [Rect.mem_set_unit, mem_box]

/-- The buffer `b` of device `c`'s core. -/
abbrev at_ (c : Dev nD) (b : Ref sig .tc) : Loc nD τ sig := (c : Thread nD τ).loc b

/-- The contents `f` agrees with `G` on `D`. -/
def Fills {X : Type} {α : X → Type} (G : (x : X) → α x) (D : Finset X) (f : (x : X) → α x) : Prop := ∀ i ∈ D, f i = G i

/-- A piece `S` of a buffer, held whole at contents known (to be `G`) on `D`. -/
def filled (ℓ : Loc nD τ sig) (S D : Finset (Idx ℓ)) (G : Buf (Elt F) ℓ) : sProp 𝕄 :=
  iprop(∃ f : Buf (Elt F) ℓ, ⌜Fills G D f⌝ ∗ ℓ ↦[S]{fullShare} f)

/-- A piece of a buffer held whole at some contents. -/
def anyP (ℓ : Loc nD τ sig) (S : Finset (Idx ℓ)) : sProp 𝕄 := iprop(∃ f : Buf (Elt F) ℓ, ℓ ↦[S]{fullShare} f)

omit [FloatOps F] in
instance anyP_storable (ℓ : Loc nD τ sig) (S : Finset (Idx ℓ)) : BI.Storable (upEmb : UEmb _ 𝕄) (anyP (F := F) ℓ S) := by
  unfold anyP; infer_instance

/-! ## Canonical contents -/

variable (m : (ℓ : Loc nD τ sig) → Buf (Elt F) ℓ)

/-- Device `e`'s inputs. -/
def Xf (e : Dev nD) : S2048x8192.Idx → F .f32 := m (at_ e main_arg0)
def Wf (e : Dev nD) : S8192x1024.Idx → F .f32 := m (at_ e main_arg1)
/-- … at the shorter format. -/
def Xb (e : Dev nD) : S2048x8192.Idx → F .bf16 := truncf .bf16 (Xf m e : FVec F S2048x8192 .f32) bitsLt_bf16_f32
def Wb (e : Dev nD) : S8192x1024.Idx → F .bf16 := truncf .bf16 (Wf m e : FVec F S8192x1024 .f32) bitsLt_bf16_f32
/-- The gathered weights: slot `s` is device `s`'s. -/
def G (i : S4x8192x1024.Idx) : F .bf16 := Wb m ⟨(i 0).val, (i 0).isLt⟩ (ix2 (i 1) (i 2))
/-- Row tile `r` (512 rows) of `x`. -/
def tile (e : Dev nD) (r : Fin 4) : S512x8192.Idx → F .bf16 := fun j =>
  Xb m e (ix2 ⟨512 * r.val + (j 0).val, by have := idx2_lt0 j; omega⟩ (j 1))
/-- What the device computes at row tile `r` against device `s`'s weights. -/
def T (e s : Dev nD) (r : Fin 4) : S512x1024.Idx → F .f32 := k0_pay20 (tile m e r) (Wb m s)
/-- All its row tiles. -/
def Y (e s : Dev nD) : S2048x1024.Idx → F .f32 := fun i =>
  T m e s ⟨(i 0).val / 512, by have := idx2_lt0 i; omega⟩ (ix2 ⟨(i 0).val % 512, Nat.mod_lt _ (by decide)⟩ (i 1))
/-- The device whose result is staged in slot `k`. -/
def dest (e : Dev nD) (k : ℕ) : Dev nD := if k = 0 then nxt e else if k = 1 then opp e else prv e
/-- The results a device stages for the others. -/
def Res (e : Dev nD) : S3x2048x1024.Idx → F .f32 := fun i => Y m e (dest e (i 0).val) (ix2 (i 1) (i 2))
/-- The result of device `e`. -/
def Out (e : Dev nD) : S8192x1024.Idx → F .f32 := fun i =>
  Y m ⟨(i 0).val / 2048, by have := idx2_lt0 i; show _ < 4; omega⟩ e (ix2 ⟨(i 0).val % 2048, Nat.mod_lt _ (by decide)⟩ (i 1))

/-! ## The semaphores -/

abbrev barS : Sem sig := (SemArray.scalar (sig.barrier 0 rfl) : Sems sig S_).sem
abbrev dS (n : ℕ) (h : n < 25 := by decide) : SemLoc sig := .dma (⟨n, h⟩ : Fin 25)
/-- Cells shared between devices or waited for by their credit: DMA semaphores 0–21 and the barrier. -/
abbrev csem (k : Fin 23) : SemLoc sig := if h : k.val < 22 then .dma (⟨k.val, by omega⟩ : Fin 25) else .reg barS
abbrev kcell (c : Dev nD) (s : SemLoc sig) : GSem nD τ sig := ((c : Thread nD τ), s)

/-! ## The pieces that change hands -/

/-- Half `h` (4096 rows) of slot `s` of device `e`'s gathered weights. -/
abbrev wgB (s : Dev nD) (h : ℕ) : Finset S4x8192x1024.Idx := box ![s.val, 4096 * h, 0] ![1, 4096, 1024]
/-- `n` rows from `r` on of a result. -/
abbrev outB (r n : ℕ) : Finset S8192x1024.Idx := box ![r, 0] ![n, 1024]

def wgAny (e s : Dev nD) (h : ℕ) : sProp 𝕄 := anyP (at_ e main_v1_1) (wgB s h)
def wgP (e s : Dev nD) (h : ℕ) : sProp 𝕄 := (at_ e main_v1_1) ↦[wgB s h]{fullShare} G m
def outAny (e : Dev nD) (r n : ℕ) : sProp 𝕄 := anyP (at_ e main_v1_0) (outB r n)
def outP (e : Dev nD) (r n : ℕ) : sProp 𝕄 := (at_ e main_v1_0) ↦[outB r n]{fullShare} Out m e

/-- What the next device's first signal hands device `e`. -/
def barT (e : Dev nD) : sProp 𝕄 := iprop(wgAny (nxt e) e 0 ∗ wgAny (nxt e) (prv e) 0 ∗ wgAny (nxt e) (opp e) 0
  ∗ outAny (nxt e) (2048 * e.val) 1024 ∗ outAny (nxt e) (2048 * e.val + 1024) 1024)
/-- What the previous device's second signal hands device `e`. -/
def barF (e : Dev nD) : sProp 𝕄 := iprop(wgAny (prv e) e 1 ∗ wgAny (prv e) (nxt e) 1 ∗ wgAny (prv e) (opp e) 1
  ∗ outAny (prv e) (2048 * e.val) 1024 ∗ outAny (prv e) (2048 * e.val + 1024) 1024
  ∗ outAny (prv e) (2048 * (nxt e).val) 2048)

/-- What arrives at DMA cell `n` of device `e`. -/
def dmaPay (e : Dev nD) (n : ℕ) : sProp 𝕄 :=
  match n with
  | 3 => iprop(wgP m e (prv e) 0 ∗ outAny (opp e) (2048 * e.val) 2048)
  | 4 => wgP m e (opp e) 0
  | 5 => wgP m e (nxt e) 0
  | 9 => wgP m e (nxt e) 1
  | 10 => wgP m e (opp e) 1
  | 11 => wgP m e (prv e) 1
  | 17 => outP m e (2048 * (prv e).val) 1024
  | 18 => outP m e (2048 * (prv e).val + 1024) 1024
  | 19 => outP m e (2048 * (opp e).val) 2048
  | 20 => outP m e (2048 * (nxt e).val) 1024
  | 21 => outP m e (2048 * (nxt e).val + 1024) 1024
  | _ => iprop(emp)

/-- The units of a copy of half a slot, and of half and of a whole block of rows. -/
def NA : ℕ := sig.dmaCredit .tc .hbm (3 : Fin 6) S4096x1024 .bf16
def NH : ℕ := sig.dmaCredit .tc .hbm (2 : Fin 6) S1024x1024 .f32
def NF : ℕ := sig.dmaCredit .tc .hbm (2 : Fin 6) S2048x1024 .f32
theorem NA_pos : 0 < NA := sig.dmaCredit_pos _ _ _ _ _ (by decide)
theorem NH_pos : 0 < NH := sig.dmaCredit_pos _ _ _ _ _ (by decide)
theorem NF_pos : 0 < NF := sig.dmaCredit_pos _ _ _ _ _ (by decide)
def amt (n : ℕ) : ℕ := if n < 12 then NA else if n = 14 ∨ n = 19 then NF else NH
theorem amt_pos (n : ℕ) : 0 < amt n := by
  unfold amt; split; · exact NA_pos
  split; · exact NF_pos
  exact NH_pos

def semAmt : SemLoc sig → ℕ
  | .reg _ => 1
  | .dma d => amt (d : Fin 25).val

def semDuties : SemLoc sig → Finset Bool
  | .reg _ => Finset.univ
  | .dma d => if (d : Fin 25).val < 22 then {false} else ∅

/-- One round: the barrier's two duties of a unit each, a transfer cell's one duty of its credit. -/
def Rd : Rounds.Schedule (GSem nD τ sig) Bool 𝕄 where
  duties g r := if r = 0 ∧ g.1.2 = .tc then semDuties g.2 else ∅
  unitless _ := False
  amount g _ _ := semAmt g.2
  payload g _ d := match g.2 with
    | .reg _ => if d then barT g.1.1 else barF g.1.1
    | .dma s => dmaPay m g.1.1 (s : Fin 25).val
  amount_pos g _ _ _ := by
    cases g.2 with
    | reg _ => exact Nat.one_pos
    | dma s => exact amt_pos _

omit [FloatOps F] in
instance wgAny_storable (e s : Dev nD) (h : ℕ) : BI.Storable (upEmb : UEmb _ 𝕄) (wgAny (F := F) e s h) := by
  unfold wgAny; infer_instance
omit [FloatOps F] in
instance outAny_storable (e : Dev nD) (r n : ℕ) : BI.Storable (upEmb : UEmb _ 𝕄) (outAny (F := F) e r n) := by
  unfold outAny; infer_instance
instance wgP_storable (e s : Dev nD) (h : ℕ) : BI.Storable (upEmb : UEmb _ 𝕄) (wgP m e s h) := by unfold wgP; infer_instance
instance outP_storable (e : Dev nD) (r n : ℕ) : BI.Storable (upEmb : UEmb _ 𝕄) (outP m e r n) := by unfold outP; infer_instance

instance dmaPay_storable (e : Dev nD) (n : ℕ) : BI.Storable (upEmb : UEmb _ 𝕄) (dmaPay m e n) := by
  unfold dmaPay; split <;> infer_instance

instance Rd_payload_storable (g : GSem nD τ sig) (r : ℕ) (d : Bool) :
    BI.Storable (upEmb : UEmb _ 𝕄) ((Rd m).payload g r d) := by
  obtain ⟨t, s⟩ := g
  cases s with
  | reg _ =>
    show BI.Storable upEmb (if d then barT t.1 else barF t.1)
    unfold barT barF; split <;> infer_instance
  | dma s => exact dmaPay_storable m t.1 _

/-! ## The schedule at each cell -/

theorem duties_dma (c : Dev nD) (n : ℕ) (h : n < 25) (h' : n < 22) : (Rd m).duties (kcell c (dS n h)) 0 = {false} := by
  show (if (0 : ℕ) = 0 ∧ (c : Thread nD τ).2 = .tc then semDuties (dS n h) else ∅) = {false}
  rw [if_pos ⟨rfl, rfl⟩]
  show (if n < 22 then {false} else ∅) = ({false} : Finset Bool)
  rw [if_pos h']
theorem duties_bar (c : Dev nD) : (Rd m).duties (kcell c (.reg barS)) 0 = Finset.univ := by
  show (if (0 : ℕ) = 0 ∧ (c : Thread nD τ).2 = .tc then semDuties (.reg barS) else ∅) = Finset.univ
  rw [if_pos ⟨rfl, rfl⟩]; rfl
theorem duties_later (g : GSem nD τ sig) : ∀ r, 1 ≤ r → (Rd m).duties g r = ∅ :=
  fun r hr => if_neg fun h => by omega
theorem expect_dma (c : Dev nD) (n : ℕ) (h : n < 25) (h' : n < 22) : (Rd m).expect (kcell c (dS n h)) 0 = amt n := by
  unfold Schedule.expect Schedule.amountOf; rw [duties_dma m c n h h', Finset.sum_singleton]; rfl
theorem expect_bar (c : Dev nD) : (Rd m).expect (kcell c (.reg barS)) 0 = 2 := by
  unfold Schedule.expect Schedule.amountOf; rw [duties_bar]; rfl

/-! ## What is owed, and the levels -/

/-- The obligations of a list of cells. -/
def due : List (GSem nD τ sig) → CellTallies nD τ sig Unit
  | [] => 0
  | g :: l => due l + tallyAt g () (semAmt g.2)

/-- The order in which a device pays. -/
def debts (c : Dev nD) : List (GSem nD τ sig) :=
  [kcell (prv c) (.reg barS), kcell (nxt c) (.reg barS), kcell (nxt c) (dS 3), kcell (prv c) (dS 9),
   kcell (nxt c) (dS 4), kcell (prv c) (dS 10), kcell (nxt c) (dS 5), kcell (prv c) (dS 11), kcell (opp c) (dS 19),
   kcell (nxt c) (dS 17), kcell (nxt c) (dS 18), kcell (prv c) (dS 20), kcell (prv c) (dS 21)]

def dmaLv (n : ℕ) : ℕ :=
  if n = 3 ∨ n = 9 then 2 else if n = 4 ∨ n = 10 then 3 else if n = 5 ∨ n = 11 then 4 else if 17 ≤ n ∧ n < 22 then 5 else 0
def semLv : SemLoc sig → ℕ
  | .reg _ => 1
  | .dma d => dmaLv (d : Fin 25).val
def L (g : GSem nD τ sig) : Finset Unit := if g.1.2 = .tc then {()} else ∅
def lv (g : GSem nD τ sig) (_ : Unit) : ℕ := semLv g.2

theorem due_pos {l : List (GSem nD τ sig)} {g : GSem nD τ sig} {i : Unit} (h : 0 < due l g i) : g ∈ l := by
  induction l with
  | nil => exact absurd h (Nat.lt_irrefl _)
  | cons a l ih =>
    by_cases hg : g = a
    · exact hg ▸ List.mem_cons_self
    · refine List.mem_cons_of_mem _ (ih ?_)
      unfold due at h
      rwa [Pi.add_apply, Finsupp.add_apply, tallyAt_ne_cell hg, Finsupp.zero_apply, Nat.add_zero] at h

/-- A wait on a cell below everything still owed is permitted. -/
theorem mayWait (c : Dev nD) (s : SemLoc sig) (l : List (GSem nD τ sig)) (h : ∀ g ∈ l, g.1.2 = .tc ∧ semLv s < semLv g.2) :
    (levAts L lv : sProp 𝕄) ⊢ MayWait (c : Thread nD τ) s () (due l) :=
  Pipeline.mayWait_of_levAts (by simp [L]) fun g i hg => by
    have := h g (due_pos hg)
    exact ⟨by simp [L, this.1], this.2⟩

end Cert.KProof

end
-- ==== Proof.Steps.lean ====
/-
One step of the body at a time: a local copy with its wait, a load, a store, a signal, a send and a wait on a shared
cell, each over the resources of the protocol.
-/
module

public import proofs.«01_k».proof.Proof.Proto

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

/-- A program of device `c`'s core. -/
abbrev Pg (F : FTy → Type) (α : Type) : Type 1 := Prog (TpuEff nD τ sig (Elt F) Λ₀ .tc) α

abbrev WP (c : Dev nD) {α : Type} (p : Pg F α) (Q : α → sProp 𝕄) : sProp 𝕄 :=
  wp frame (wpE (defs₀ (F := F)) 𝒱₀ (c : Thread nD τ) none) Set.univ p Q

/-! ## Debts -/

/-- Device `c` has paid its first `k` debts. -/
def owed (c : Dev nD) (k : ℕ) : sProp 𝕄 := iprop(∃ W, owes (c : Thread nD τ) (due ((debts c).drop k)) W)

def debtLv : List ℕ := [1, 1, 2, 2, 3, 3, 4, 4, 5, 5, 5, 5, 5]

theorem debts_lv (c : Dev nD) : (debts c).map (fun g => semLv g.2) = debtLv := rfl
theorem debts_tc (c : Dev nD) : ∀ g ∈ debts c, g.1.2 = .tc := by simp [debts]

theorem mayWaitAt (c : Dev nD) (k : ℕ) (s : SemLoc sig) (h : ∀ v ∈ debtLv.drop k, semLv s < v) :
    (levAts L lv : sProp 𝕄) ⊢ MayWait (c : Thread nD τ) s () (due ((debts c).drop k)) :=
  mayWait c s _ fun g hg => ⟨debts_tc c g (List.mem_of_mem_drop hg), h _ (by
    rw [← debts_lv c, ← List.map_drop]; exact List.mem_map_of_mem hg)⟩

/-- A DMA semaphore of level 0 may always be waited on. -/
theorem low (n : ℕ) (h : n < 25) (hn : dmaLv n = 0) (k : ℕ) : ∀ v ∈ debtLv.drop k, semLv (dS n h) < v := by
  intro v hd
  have hv := List.mem_of_mem_drop hd
  clear hd
  show dmaLv n < v
  rw [hn]; revert v; decide

/-! ## Pieces known in part -/

section Fill
variable {ℓ : Loc nD τ sig} {S D D' : Finset (Idx ℓ)} {G f : Buf (Elt F) ℓ}

omit [FloatOps F] in
theorem filled_none : anyP (F := F) ℓ S ⊢ filled ℓ S ∅ G := by
  unfold anyP filled; iintro ⟨%f, H⟩; iexists f; isplitr; · ipureintro; intro i hi; simp at hi
  iexact H

omit [FloatOps F] in
theorem filled_all (h : S ⊆ D) : filled (F := F) ℓ S D G ⊢ (ℓ ↦[S]{fullShare} G) := by
  unfold filled; iintro ⟨%f, %hf, H⟩
  rw [pointsTo_congr (fun i hi => (hf i (h hi)).symm)]; iexact H

omit [FloatOps F] in
theorem anyP_intro : (ℓ ↦[S]{fullShare} f : sProp 𝕄) ⊢ anyP (F := F) ℓ S := by
  unfold anyP; iintro H; iexists f; iexact H

omit [FloatOps F] in
theorem anyP_split (h : D ⊆ S) : anyP (F := F) ℓ S ⊢ iprop(anyP ℓ D ∗ anyP ℓ (S \ D)) := by
  unfold anyP; iintro ⟨%f, H⟩
  ihave H := (pointsTo_split_subset h).1 $$ H
  icases H with ⟨H, H'⟩
  isplitl [H]; · iexists f; iexact H
  iexists f; iexact H'
end Fill

section Write
variable {sp : Space} {s : Shape} {e : EltTy} (v : View sig .tc sp s e)

/-- Writing what the wanted contents read as extends what is known. -/
theorem fills_write {G f : v.ty.Contents (Elt F)} {w : s.Idx → Elt F e} {D D' : Finset v.ty.Idx}
    (hw : v.read (Elt F) G = w) (hf : Fills G D f) (hD : ∀ i ∈ D', i ∈ D ∨ i ∈ v.set) :
    Fills G D' (v.write (Elt F) f w Finset.univ) := by
  intro i hi
  by_cases hv : i ∈ v.set
  · obtain ⟨x, -, rfl⟩ := Finset.mem_map.mp hv
    rw [View.write_emb_of_mem (h := Finset.mem_univ x), ← hw]
    simp [View.read]
  · rw [View.write_of_not_mem _ _ _ (by rwa [View.setOn_univ])]
    exact hf i ((hD i hi).resolve_right hv)
end Write

/-! ## Local copies -/

section Steps
variable {α : Type} (m : (ℓ : Loc nD τ sig) → Buf (Elt F) ℓ) (c : Dev nD) (k : ℕ)

/-- A local copy and its wait. -/
theorem copy_step {Q : α → sProp 𝕄} {sp sp' : Space} {s : Shape} {e : EltTy} {src : Memref sig .tc sp s e} {dst : Memref sig .tc sp' s e}
    {n : ℕ} {h : n < 25} (hn : dmaLv n = 0) {sm : DmaSem sig} (hsm : sm = (⟨n, h⟩ : Fin 25))
    {h₁ h₂ h₃ h₄ h₅} {kk : PUnit → Pg F α}
    {Ss : Finset (Idx (src.view.loc (c : Thread nD τ)))} {Sd : Finset (Idx (dst.view.loc (c : Thread nD τ)))}
    {q : PosShare TreeShare} {fs : Buf (Elt F) (src.view.loc (c : Thread nD τ))} {fd : Buf (Elt F) (dst.view.loc (c : Thread nD τ))}
    (hnum : 0 < s.numel) (hs : src.view.set ⊆ Ss) (hd : dst.view.set ⊆ Sd) :
    iprop(levAts L lv ∗ (src.view.loc (c : Thread nD τ) ↦[Ss]{q} fs) ∗ (dst.view.loc (c : Thread nD τ) ↦[Sd]{fullShare} fd)
        ∗ semVal (kcell c (dS n h)) 0 ∗ owed c k)
      ⊢ iprop((((src.view.loc (c : Thread nD τ) ↦[Ss]{q} fs)
            ∗ (dst.view.loc (c : Thread nD τ) ↦[Sd]{fullShare} dst.view.write (Elt F) fd (src.view.read (Elt F) fs) Finset.univ)
            ∗ semVal (kcell c (dS n h)) 0 ∗ owed c k) -∗ WP c (kk ⟨⟩) Q)
        -∗ WP c (Prog.op (.enqueueDma src (.here dst) (.dma sm) h₁ h₂ h₃) fun _ => Prog.op (.waitDma2 sm src dst h₄ h₅) kk) Q) := by
  subst hsm
  unfold owed
  iintro ⟨#Hl, Hs, Hd, Hv, ⟨%W, HO⟩⟩ Hk
  ihave Hs := (pointsTo_split_subset hs).1 $$ Hs
  icases Hs with ⟨Hs, Hrest⟩
  iapply (Transfers.wp_dmaLocal EC 𝒱₀ (c : Thread nD τ) none () (dst.view.dmaCredit) rfl (View.dmaCredit_pos _ hnum) hd) $$ [Hs Hd Hv]
  · isplitl [Hs]; · iexact Hs
    isplitl [Hd]; · iexact Hd
    iexact Hv
  iintro Hf
  iapply (Transfers.wp_waitLocalO EC 𝒱₀ (c : Thread nD τ) none () rfl) $$ [Hf HO]
  · isplitl [Hf]; · iexact Hf
    isplitl [HO]; · iexact HO
    iapply (mayWaitAt c k _ (low n h hn k)); iexact Hl
  iintro ⟨⟨Hd, Hs⟩, Hv, HO⟩
  iapply Hk
  isplitl [Hs Hrest]
  · iapply (pointsTo_split_subset hs).2; isplitl [Hs] <;> iassumption
  isplitl [Hd]; · iexact Hd
  isplitl [Hv]; · iexact Hv
  iexists _; iexact HO

/-! ## The shared cells -/

/-- What every device knows of every shared cell, and the levels. -/
def Recs (K : Dev nD × Fin 23 → ℕ) : sProp 𝕄 :=
  iprop((bigSep Finset.univ fun p : Dev nD × Fin 23 => cellInv ER (Rd m) (K p) (kcell p.1 (csem p.2)))
    ∗ (bigSep Finset.univ fun p : Dev nD × Fin 23 => reached ER (kcell p.1 (csem p.2)) 0) ∗ levAts L lv)

instance Recs_persistent (K : Dev nD × Fin 23 → ℕ) : BI.Persistent (Recs m K) := by unfold Recs; infer_instance

theorem inv_at (K : Dev nD × Fin 23 → ℕ) (p : Dev nD × Fin 23) :
    (bigSep Finset.univ fun p : Dev nD × Fin 23 => (cellInv ER (Rd m) (K p) (kcell p.1 (csem p.2)) : sProp 𝕄))
      ⊢ cellInv ER (Rd m) (K p) (kcell p.1 (csem p.2)) := bigSep_elim (Finset.mem_univ p)
omit [FloatOps F] in
theorem reached_at (p : Dev nD × Fin 23) :
    (bigSep Finset.univ fun p : Dev nD × Fin 23 => (reached ER (kcell p.1 (csem p.2)) 0 : sProp 𝕄))
      ⊢ reached ER (kcell p.1 (csem p.2)) 0 := bigSep_elim (Finset.mem_univ p)

theorem recs_at (K : Dev nD × Fin 23 → ℕ) (p : Dev nD × Fin 23) :
    Recs m K ⊢ iprop(cellInv ER (Rd m) (K p) (kcell p.1 (csem p.2)) ∗ reached ER (kcell p.1 (csem p.2)) 0) := by
  unfold Recs
  iintro ⟨HI, HR, -⟩
  isplitl [HI]
  · iapply (inv_at m K p); iexact HI
  · iapply (reached_at (F := F) p); iexact HR

theorem recs_lev (K : Dev nD × Fin 23 → ℕ) : Recs m K ⊢ levAts L lv := by unfold Recs; iintro ⟨-, -, H⟩; iexact H

theorem csem_dma (n : ℕ) (h : n < 25) (h' : n < 22) : csem ⟨n, Nat.lt_succ_of_lt h'⟩ = dS n h := dif_pos h'
theorem csem_bar : csem 22 = .reg barS := rfl

theorem recs_dma (K : Dev nD × Fin 23 → ℕ) (e : Dev nD) (n : ℕ) (h : n < 25) (h' : n < 22) :
    Recs m K ⊢ iprop(cellInv ER (Rd m) (K (e, ⟨n, Nat.lt_succ_of_lt h'⟩)) (kcell e (dS n h)) ∗ reached ER (kcell e (dS n h)) 0) := by
  rw [← csem_dma n h h']; exact recs_at m K (e, ⟨n, Nat.lt_succ_of_lt h'⟩)

theorem recs_bar (K : Dev nD × Fin 23 → ℕ) (e : Dev nD) :
    Recs m K ⊢ iprop(cellInv ER (Rd m) (K (e, 22)) (kcell e (.reg barS)) ∗ reached ER (kcell e (.reg barS)) 0) :=
  recs_at m K (e, 22)

/-- The right to make the one delivery at DMA cell `n` of device `e`. -/
def tokD (e : Dev nD) (n : ℕ) (h : n < 25 := by decide) : sProp 𝕄 := dutyTok ER (kcell e (dS n h)) 0 false
/-- Device `e`'s place at one of its cells: at the start. -/
def posS (e : Dev nD) (s : SemLoc sig) : sProp 𝕄 := atPos ER (kcell e s) 0 ∅ 0
/-- The credit for the wait on DMA cell `n` of device `e`. -/
def credD (e : Dev nD) (n : ℕ) (h : n < 25 := by decide) : sProp 𝕄 := cred (tallyAt (kcell e (dS n h)) () (amt n))

theorem pay_bar (e : Dev nD) (d : Bool) :
    (Rd m).payload (kcell e (.reg barS)) 0 d = if d then barT e else barF e := rfl
theorem pay_dma (e : Dev nD) (n : ℕ) (h : n < 25) (d : Bool) : (Rd m).payload (kcell e (dS n h)) 0 d = dmaPay m e n := rfl
theorem rest_bar (e : Dev nD) :
    bigSep ((Rd m).duties (kcell e (.reg barS)) 0 \ ∅) (fun d => (Rd m).payload (kcell e (.reg barS)) 0 d) = iprop(barT e ∗ barF e) := by
  rw [duties_bar, Finset.sdiff_empty, show (Finset.univ : Finset Bool) = {true, false} from rfl,
    bigSep_insert (by decide), bigSep_singleton]; rfl
theorem rest_dma (e : Dev nD) (n : ℕ) (h : n < 25) (h' : n < 22) :
    bigSep ((Rd m).duties (kcell e (dS n h)) 0 \ ∅) (fun d => (Rd m).payload (kcell e (dS n h)) 0 d) = dmaPay m e n := by
  rw [duties_dma m e n h h', Finset.sdiff_empty, bigSep_singleton]; rfl

/-- A signal of a barrier cell: the payload of its duty is handed over. -/
theorem signal_step {Q : α → sProp 𝕄} (K : Dev nD × Fin 23 → ℕ) {nd c' : Dev nD} (hnd : nd = c') (d : Bool) {kk : PUnit → Pg F α}
    (hk : (debts c).drop k = kcell c' (.reg barS) :: (debts c).drop (k + 1)) :
    iprop(Recs m K ∗ dutyTok ER (kcell c' (.reg barS)) 0 d ∗ (if d then barT c' else barF c') ∗ owed c k)
      ⊢ iprop((owed c (k + 1) -∗ WP c (kk ⟨⟩) Q)
        -∗ WP c (Prog.op (.semSignal (nd : Thread nD τ) barS 1) kk) Q) := by
  subst hnd
  unfold owed
  rw [hk]
  iintro ⟨#HR, Htok, Hpay, ⟨%W, HO⟩⟩ Hk
  ihave ⟨#HI, #Hr⟩ := (recs_bar m K nd) $$ HR
  iapply (Rounds.wp_signal 𝒱₀ ER (Rd m) (c : Thread nD τ) none (dst := (nd : Thread nD τ)) (κ := K (nd, 22)) (d := d)
      (by rw [duties_bar]; exact Finset.mem_univ _) (show (Rd m).amount (kcell nd (.reg barS)) 0 d = 1 from rfl) ()
      (due ((debts c).drop (k + 1))) rfl) $$ [HO Htok Hpay]
  · isplitr; · iexact HI
    isplitl [HO]; · iexact HO
    isplitl [Htok]; · iexact Htok
    isplitl [Hpay]; · rw [pay_bar]; iexact Hpay
    iexact Hr
  iintro HO
  iapply Hk
  iexists W; iexact HO

/-- The wait on the own barrier cell for both signals. -/
theorem bar_step {Q : α → sProp 𝕄} (K : Dev nD × Fin 23 → ℕ) {kk : PUnit → Pg F α} (hk : ∀ v ∈ debtLv.drop k, 1 < v) :
    iprop(Recs m K ∗ cred (tallyAt (kcell c (.reg barS)) () 2) ∗ posS c (.reg barS) ∗ owed c k)
      ⊢ iprop(((barT c ∗ barF c ∗ semVal (kcell c (.reg barS)) 0 ∗ owed c k) -∗ WP c (kk ⟨⟩) Q)
        -∗ WP c (Prog.op (.semWait barS 2) kk) Q) := by
  unfold owed posS
  iintro ⟨#HR, Hc, Hat, ⟨%W, HO⟩⟩ Hk
  ihave ⟨#HI, -⟩ := (recs_bar m K c) $$ HR
  ihave #Hl := (recs_lev m K) $$ HR
  iapply (Rounds.wp_wait_rest_token 𝒱₀ ER (Rd m) (c : Thread nD τ) none (κ := K (c, 22))
      (wpE_semWait_eq 𝒱₀ (c : Thread nD τ) none Set.univ) (Set.mem_univ _) () (O := due ((debts c).drop k)) (W := W) (R := 0) (m := 0) (T := ∅)
      (by rw [expect_bar])) $$ [Hc HO Hat]
  · isplitr; · iexact HI
    isplitl [Hc]; · iexact Hc
    isplitl [HO]; · iexact HO
    isplitr; · iapply (mayWaitAt c k (.reg barS) hk); iexact Hl
    iexact Hat
  iintro ⟨HO, Hat, -, Hpay⟩
  imod (Rounds.cell_close ER (Rd m) (Set.mem_univ (K (c, 22))) (fun h => h) (R := 0 + 1) (duties_later m _)) $$ [Hat] with Hz
  · isplitr; · iexact HI
    iexact Hat
  ihave Hpay := (Entails.of_eq (rest_bar m c)) $$ Hpay
  icases Hpay with ⟨HT, HF⟩
  iapply Hk
  isplitl [HT]; · iexact HT
  isplitl [HF]; · iexact HF
  isplitl [Hz]; · iexact Hz
  iexists _; iexact HO

/-- The wait on an own transfer cell. -/
theorem wait_step {Q : α → sProp 𝕄} (K : Dev nD × Fin 23 → ℕ) (n : ℕ) (h : n < 25) (h' : n < 22) {sm : DmaSem sig} (hsm : sm = (⟨n, h⟩ : Fin 25))
    {sp sp' : Space} {s s' : Shape} {e e' : EltTy} {src : Memref sig .tc sp s e} {dst : Memref sig .tc sp' s' e'} {h₁ h₂}
    {kk : PUnit → Pg F α} (hN : dst.view.dmaCredit = amt n) (hk : ∀ v ∈ debtLv.drop k, dmaLv n < v) :
    iprop(Recs m K ∗ credD c n h ∗ posS c (dS n h) ∗ owed c k)
      ⊢ iprop(((dmaPay m c n ∗ semVal (kcell c (dS n h)) 0 ∗ owed c k) -∗ WP c (kk ⟨⟩) Q)
        -∗ WP c (Prog.op (.waitDma2 sm src dst h₁ h₂) kk) Q) := by
  subst hsm
  unfold owed posS credD
  rw [← hN]
  iintro ⟨#HR, Hc, Hat, ⟨%W, HO⟩⟩ Hk
  ihave ⟨#HI, -⟩ := (recs_dma m K c n h h') $$ HR
  ihave #Hl := (recs_lev m K) $$ HR
  iapply (Rounds.wp_wait_rest_token 𝒱₀ ER (Rd m) (c : Thread nD τ) none (κ := K (c, ⟨n, Nat.lt_succ_of_lt h'⟩))
      (wpE_waitDma2_eq 𝒱₀ (c : Thread nD τ) none Set.univ) (Set.mem_univ _) () (O := due ((debts c).drop k)) (W := W) (R := 0) (m := 0) (T := ∅)
      (by rw [expect_dma m c n h h', Nat.zero_add]; exact hN)) $$ [Hc HO Hat]
  · isplitr; · iexact HI
    isplitl [Hc]; · iexact Hc
    isplitl [HO]; · iexact HO
    isplitr; · iapply (mayWaitAt c k (dS n h) hk); iexact Hl
    iexact Hat
  iintro ⟨HO, Hat, -, Hpay⟩
  imod (Rounds.cell_close ER (Rd m) (Set.mem_univ (K (c, ⟨n, Nat.lt_succ_of_lt h'⟩))) (fun h => h) (R := 0 + 1) (duties_later m _)) $$ [Hat] with Hz
  · isplitr; · iexact HI
    iexact Hat
  ihave Hpay := (Entails.of_eq (rest_dma m c n h h')) $$ Hpay
  iapply Hk
  isplitl [Hpay]; · iexact Hpay
  isplitl [Hz]; · iexact Hz
  iexists _; iexact HO

omit [FloatOps F] in
theorem to_emp (P : sProp 𝕄) : P ⊢ iprop(emp) := by
  iintro -
  iempintro

/-- A send: the source's share is given up, the landing place's piece goes to its owner at the wanted contents. -/
theorem send_step {Q : α → sProp 𝕄} (K : Dev nD × Fin 23 → ℕ) {nd c' : Dev nD} (hnd : nd = c')
    (a b : ℕ) (ha : a < 25) (ha' : a < 22) (hb : b < 25) (hb' : b < 22) {sS sR : DmaSem sig} (hS : sS = (⟨a, ha⟩ : Fin 25)) (hR : sR = (⟨b, hb⟩ : Fin 25))
    {sp sp' : Space} {s : Shape} {e : EltTy} {src : Memref sig .tc sp s e} {dst : Memref sig .tc sp' s e} {h₄ : dst.view.ref.isScScratch = false}
    {h₁ : src.view.WordExact} {h₂ : dst.view.WordExact} {h₃ : DmaTarget.Typed (nD := nD) sp (.dma sR) (.remote (nd : Thread nD τ) dst (.dma sS) h₄)}
    {kk : PUnit → Pg F α} {Ss : Finset (Idx (src.view.loc (c : Thread nD τ)))} {Sd : Finset (Idx (dst.view.loc (c' : Thread nD τ)))}
    {q : PosShare TreeShare} {fs : Buf (Elt F) (src.view.loc (c : Thread nD τ))} {X : sProp 𝕄}
    (G' : Buf (Elt F) (dst.view.loc (c' : Thread nD τ)))
    (hs : src.view.set = Ss) (hd : dst.view.set = Sd) (hG : dst.view.read (Elt F) G' = src.view.read (Elt F) fs)
    (hN : dst.view.dmaCredit = amt b) (hab : amt a = amt b) (hk : (debts c).drop k = kcell c' (dS b hb) :: (debts c).drop (k + 1))
    (hpa : dmaPay m c a = iprop(emp)) (hpb : iprop((dst.view.loc (c' : Thread nD τ) ↦[Sd]{fullShare} G') ∗ X) ⊢ dmaPay m c' b) :
    iprop(Recs m K ∗ (src.view.loc (c : Thread nD τ) ↦[Ss]{q} fs) ∗ anyP (dst.view.loc (c' : Thread nD τ)) Sd ∗ X
        ∗ tokD c a ha ∗ tokD c' b hb ∗ owed c k)
      ⊢ iprop(((credD c a ha ∗ owed c (k + 1)) -∗ WP c (kk ⟨⟩) Q)
        -∗ WP c (Prog.op (.enqueueDma src (.remote (nd : Thread nD τ) dst (.dma sS) h₄) (.dma sR) h₁ h₂ h₃) kk) Q) := by
  subst hnd hS hR hs hd
  unfold owed tokD credD anyP
  rw [hk]
  iintro ⟨#HR, Hs, ⟨%fd, Hd⟩, HX, Hta, Htb, ⟨%W, HO⟩⟩ Hk
  ihave ⟨#HIa, #Hra⟩ := (recs_dma m K c a ha ha') $$ HR
  ihave ⟨#HIb, #Hrb⟩ := (recs_dma m K nd b hb hb') $$ HR
  iapply (Rounds.wp_send_pointsTo_with 𝒱₀ ER (Rd m) (c : Thread nD τ) none (c' := (nd : Thread nD τ)) (src := src) (dst := dst)
      (sS := dS a ha) (sem := dS b hb) (fs := fs) (fd := fd) (F := X)
      (κ₁ := K (c, ⟨a, Nat.lt_succ_of_lt ha'⟩)) (κ₂ := K (nd, ⟨b, Nat.lt_succ_of_lt hb'⟩)) (r₁ := 0) (r₂ := 0) (d₁ := false) (d₂ := false)
      (by rw [duties_dma m c a ha ha']; exact Finset.mem_singleton_self _) (by rw [duties_dma m nd b hb hb']; exact Finset.mem_singleton_self _)
      () () (amt b) hN hab rfl (due ((debts c).drop (k + 1))) rfl
      ((to_emp _).trans (Entails.of_eq hpa.symm))
      (show _ ⊢ dmaPay m nd b from by
        rw [pointsTo_congr (fun i hi => fills_write dst.view (D := ∅) hG (fun _ h => absurd h (Finset.notMem_empty _)) (fun i hi => Or.inr hi) i hi)]
        exact hpb)) $$ [Hs Hd HX HO Hta Htb]
  · isplitr; · iexact HIa
    isplitr; · iexact HIb
    isplitl [Hs]; · iexact Hs
    isplitl [Hd HX]; · (isplitl [Hd]; · iexact Hd); iexact HX
    isplitl [HO]; · iexact HO
    isplitl [Hta]; · iexact Hta
    isplitr; · iexact Hra
    isplitl [Htb]; · iexact Htb
    iexact Hrb
  iintro ⟨Hc, HO⟩
  iapply Hk
  rw [hab]
  isplitl [Hc]; · iexact Hc
  iexists W; iexact HO

end Steps

end Cert.KProof

end
-- ==== Proof.Chunks.lean ====
/-
The repeated pieces of the body: a quarter of the weights cast and placed, a chunk of `x` cast and written back, and one
row tile computed and written out.
-/
module

public import proofs.«01_k».proof.Proof.Steps
public import Idealize.ShloMosaic.Lib.Pipeline.ValueKit.Geometry
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Views of whole buffers' pieces -/

theorem set_slice_box (b : Ref sig .tc) (off size : Fin b.ty.shape.rank → ℕ) (inb) (h) :
    ((Memref.whole b).slice (Rect.unit off size inb) h).view.set = box off size :=
  (View.set_slice_whole b _).trans (set_unit off size inb)

theorem set_squeeze_box (b : Ref sig .tc) (off size : Fin b.ty.shape.rank → ℕ) (inb) (h) (s' : Shape) (hq) :
    (((Memref.whole b).slice (Rect.unit off size inb) h).squeeze s' hq).view.set = box off size :=
  (View.set_reshape _ _).trans (set_slice_box b off size inb h)

theorem mem_box2 {a b : ℕ} {o n : Fin 2 → ℕ} {i : (⟨2, ![a, b]⟩ : Shape).Idx} :
    i ∈ box o n ↔ (o 0 ≤ (i 0).val ∧ (i 0).val < o 0 + n 0) ∧ (o 1 ≤ (i 1).val ∧ (i 1).val < o 1 + n 1) := by
  rw [mem_box]; exact Fin.forall_fin_two

theorem mem_box3 {a b d : ℕ} {o n : Fin 3 → ℕ} {i : (⟨3, ![a, b, d]⟩ : Shape).Idx} :
    i ∈ box o n ↔ (o 0 ≤ (i 0).val ∧ (i 0).val < o 0 + n 0) ∧ (o 1 ≤ (i 1).val ∧ (i 1).val < o 1 + n 1)
      ∧ (o 2 ≤ (i 2).val ∧ (i 2).val < o 2 + n 2) := by
  rw [mem_box]
  exact ⟨fun h => ⟨h 0, h 1, h 2⟩, fun h a => match a with | ⟨0, _⟩ => h.1 | ⟨1, _⟩ => h.2.1 | ⟨2, _⟩ => h.2.2⟩

omit [FloatOps F] in
/-- What a piece of a whole buffer reads. -/
theorem read_slice (b : Ref sig .tc) (off size : Fin b.ty.shape.rank → ℕ) (inb) (h) (f : b.ty.Contents (Elt F)) :
    ((Memref.whole b).slice (Rect.unit off size inb) h).view.read (Elt F) f = fun j => f ((Rect.unit off size inb).emb j) := rfl

omit [FloatOps F] in
theorem read_squeeze (b : Ref sig .tc) (off size : Fin b.ty.shape.rank → ℕ) (inb) (h) (s' : Shape) (hq) (f : b.ty.Contents (Elt F)) :
    (((Memref.whole b).slice (Rect.unit off size inb) h).squeeze s' hq).view.read (Elt F) f
      = fun j => f ((Rect.unit off size inb).emb (Shape.reshapeEquiv hq.numel_eq j)) := rfl

/-! ## A quarter of the weights -/

section Chunks
variable {α : Type} (m : (ℓ : Loc nD τ sig) → Buf (Elt F) ℓ) (c : Dev nD) (k : ℕ)

abbrev hz2 : (![0, 0] : Fin 2 → ℕ) = fun _ => 0 := by decide

theorem quarter_w (r0 : ℕ) (inb) (h) (h') :
    ((Memref.whole cc0_scratch5).slice (Rect.unit (s := S8192x1024) ![r0, 0] S2048x1024.size inb) h).view.read (Elt F) (Wb m c)
      = k0_pay2 (k0_pay1 (((Memref.whole main_arg1).slice (Rect.unit (s := S8192x1024) ![r0, 0] S2048x1024.size inb) h').view.read (Elt F) (Wf m c))) := by
  unfold k0_pay2 k0_pay1
  simp only [shapeCast_self]
  rfl

/-- Row `r0 + j` of slot `c` is what the cast of a quarter puts there. -/
theorem quarter_g (r0 : ℕ) (inb) (h) (hq) (inb') (h') :
    (((Memref.whole main_v1_1).slice (Rect.unit (s := S4x8192x1024) ![c.val, r0, 0] S1x2048x1024.size inb) h).squeeze S2048x1024 hq).view.read (Elt F) (G m)
      = k0_pay1 (((Memref.whole main_arg1).slice (Rect.unit (s := S8192x1024) ![r0, 0] S2048x1024.size inb') h').view.read (Elt F) (Wf m c)) := by
  unfold k0_pay1
  simp only [shapeCast_self]
  funext j
  have e := Shape.reshapeEquiv_cons_one hq.numel_eq j
  have h0 := ValueKit.rect_emb_unit_val (s := S4x8192x1024) ![c.val, r0, 0] S1x2048x1024.size inb (Shape.reshapeEquiv hq.numel_eq j)
  show G m ((Rect.unit (s := S4x8192x1024) ![c.val, r0, 0] S1x2048x1024.size inb).emb (Shape.reshapeEquiv hq.numel_eq j))
    = Wb m c ((Rect.unit (s := S8192x1024) ![r0, 0] S2048x1024.size inb').emb j)
  unfold G
  have hc : (⟨((Rect.unit (s := S4x8192x1024) ![c.val, r0, 0] S1x2048x1024.size inb).emb (Shape.reshapeEquiv hq.numel_eq j) 0).val, Fin.isLt _⟩ : Dev nD) = c := by
    apply Fin.ext
    show ((Rect.unit (s := S4x8192x1024) ![c.val, r0, 0] S1x2048x1024.size inb).emb (Shape.reshapeEquiv hq.numel_eq j) 0).val = c.val
    rw [h0 0, e]; rfl
  rw [hc]
  congr 1
  funext a
  apply Fin.ext
  have h1 := ValueKit.rect_emb_unit_val (s := S8192x1024) ![r0, 0] S2048x1024.size inb' j
  match a with
  | ⟨0, _⟩ => exact (h0 1).trans ((congrArg (fun t : S1x2048x1024.Idx => r0 + (t 1).val) e).trans (h1 0).symm)
  | ⟨1, _⟩ => exact (h0 2).trans ((congrArg (fun t : S1x2048x1024.Idx => 0 + (t 2).val) e).trans (h1 1).symm)

omit [FloatOps F] in
theorem load_copied (f w : Vec F S2048x1024 .f32) :
    (Memref.whole cc0_scratch3).view.readAt (Elt F) (Rect.unit (s := S2048x1024) ![0, 0] S2048x1024.size inb_S2048x1024_S2048x1024_0_0).toLoadRect
      ((Memref.whole cc0_scratch3).view.write (Elt F) f w Finset.univ) = w :=
  (Memref.readAt_unit_zero (Elt F) cc0_scratch3 hz2 _ _).trans (View.write_whole_univ _ _ _)

omit [FloatOps F] in
theorem store_cast (f w : Vec F S2048x1024 .bf16) :
    ((Memref.whole cc0_scratch4).access (Rect.unit (s := S2048x1024) ![0, 0] S2048x1024.size inb_S2048x1024_S2048x1024_0_0)).write (Elt F) f w Finset.univ = w :=
  Memref.write_access_unit_zero_univ (Elt F) cc0_scratch4 hz2 _ _ _

omit [FloatOps F] in
theorem load_cast (f : Vec F S2048x1024 .bf16) :
    (Memref.whole cc0_scratch4).view.readAt (Elt F) (Rect.unit (s := S2048x1024) ![0, 0] S2048x1024.size inb_S2048x1024_S2048x1024_0_0).toLoadRect f = f :=
  Memref.readAt_unit_zero (Elt F) cc0_scratch4 hz2 _ _

/-- A quarter of the weights: fetched, cast, kept and placed in the own slot. -/
theorem quarter_step {Q : α → sProp 𝕄} (r0 : ℕ) {o1 o2 : Fin 2 → ℕ} {o3 : Fin 3 → ℕ} (ho1 : o1 = ![r0, 0]) (ho2 : o2 = ![r0, 0]) (ho3 : o3 = ![c.val, r0, 0])
    {pa : Vec F S2048x1024 .f32 → FVec F S2048x1024 .bf16} {pb : Vec F S2048x1024 .bf16 → FVec F S2048x1024 .bf16}
    (hpa : pa = k0_pay1) (hpb : pb = k0_pay2)
    {inb1 inb2 inb3 h1 h3 hq e1 e2 e3 e4 e5 f1 f2 f3 f4 f5 l1 l2 l3 l4 s1 s2 s3 s4} {kk : PUnit → Pg F α}
    {D3 D3' S3 : Finset S4x8192x1024.Idx} (hS : box ![c.val, r0, 0] ![1, 2048, 1024] ⊆ S3)
    (hD : ∀ i ∈ D3', i ∈ D3 ∨ i ∈ (box ![c.val, r0, 0] ![1, 2048, 1024] : Finset S4x8192x1024.Idx)) :
    iprop(levAts L lv ∗ (at_ c main_arg1 ↦{fullShare} m (at_ c main_arg1)) ∗ anyP (at_ c cc0_scratch3) Finset.univ ∗ anyP (at_ c cc0_scratch4) Finset.univ
        ∗ filled (at_ c cc0_scratch5) Finset.univ (box ![0, 0] ![r0, 1024]) (Wb m c) ∗ filled (at_ c main_v1_1) S3 D3 (G m)
        ∗ semVal (kcell c (dS 22)) 0 ∗ semVal (kcell c (dS 23)) 0 ∗ owed c k)
      ⊢ iprop(((levAts L lv ∗ (at_ c main_arg1 ↦{fullShare} m (at_ c main_arg1)) ∗ anyP (at_ c cc0_scratch3) Finset.univ ∗ anyP (at_ c cc0_scratch4) Finset.univ
        ∗ filled (at_ c cc0_scratch5) Finset.univ (box ![0, 0] ![r0 + 2048, 1024]) (Wb m c) ∗ filled (at_ c main_v1_1) S3 D3' (G m)
        ∗ semVal (kcell c (dS 22)) 0 ∗ semVal (kcell c (dS 23)) 0 ∗ owed c k) -∗ WP c (kk ⟨⟩) Q)
        -∗ WP c (
          Prog.op (.enqueueDma ((Memref.whole main_arg1).slice (Rect.unit (s := S8192x1024) o1 S2048x1024.size inb1) h1)
            (.here (Memref.whole cc0_scratch3)) (.dma cc0_scratch12.sem) e1 e2 e3) fun _ =>
          Prog.op (.waitDma2 cc0_scratch12.sem ((Memref.whole main_arg1).slice (Rect.unit (s := S8192x1024) o1 S2048x1024.size inb1) h1)
            (Memref.whole cc0_scratch3) e4 e5) fun _ =>
          Prog.op (.load (Memref.whole cc0_scratch3) (Rect.unit (s := S2048x1024) ![0, 0] S2048x1024.size inb_S2048x1024_S2048x1024_0_0).toLoadRect l1) fun v =>
          Prog.op (.load (Memref.whole cc0_scratch4) (Rect.unit (s := S2048x1024) ![0, 0] S2048x1024.size inb_S2048x1024_S2048x1024_0_0).toLoadRect l2) fun _ =>
          Prog.op (.store (Memref.whole cc0_scratch4) (Rect.unit (s := S2048x1024) ![0, 0] S2048x1024.size inb_S2048x1024_S2048x1024_0_0) (pa v) Finset.univ s1 s2) fun _ =>
          Prog.op (.load (Memref.whole cc0_scratch4) (Rect.unit (s := S2048x1024) ![0, 0] S2048x1024.size inb_S2048x1024_S2048x1024_0_0).toLoadRect l3) fun v' =>
          Prog.op (.load (Memref.whole cc0_scratch5) (Rect.unit (s := S8192x1024) o2 S2048x1024.size inb2).toLoadRect l4) fun _ =>
          Prog.op (.store (Memref.whole cc0_scratch5) (Rect.unit (s := S8192x1024) o2 S2048x1024.size inb2) (pb v') Finset.univ s3 s4) fun _ =>
          Prog.op (.enqueueDma (Memref.whole cc0_scratch4) (.here (((Memref.whole main_v1_1).slice (Rect.unit (s := S4x8192x1024) o3 S1x2048x1024.size inb3) h3).squeeze S2048x1024 hq))
            (.dma cc0_scratch13.sem) f1 f2 f3) fun _ =>
          Prog.op (.waitDma2 cc0_scratch13.sem (Memref.whole cc0_scratch4) (((Memref.whole main_v1_1).slice (Rect.unit (s := S4x8192x1024) o3 S1x2048x1024.size inb3) h3).squeeze S2048x1024 hq)
            f4 f5) kk) Q) := by
  subst ho1 ho2 ho3 hpa hpb
  unfold anyP filled
  iintro ⟨#Hl, Hw, ⟨%f9, H9⟩, ⟨%f10, H10⟩, ⟨%f11, %h11, H11⟩, ⟨%fg, %hg, Hg⟩, Hi, Ho, HO⟩ Hk
  iapply (copy_step c k (n := 22) (h := by decide) rfl rfl h_S2048x1024 (Finset.subset_univ _) (Finset.subset_univ _)) $$ [Hw H9 Hi HO]
  · isplitr; · iexact Hl
    isplitl [Hw]; · iexact Hw
    isplitl [H9]; · iexact H9
    isplitl [Hi]; · iexact Hi
    iexact HO
  iintro ⟨Hw, H9, Hi, HO⟩
  iapply (wp_load 𝒱₀ (c : Thread nD τ) none Set.univ (m := Memref.whole cc0_scratch3) (Finset.subset_univ _)) $$ H9; iintro H9
  iapply (wp_load 𝒱₀ (c : Thread nD τ) none Set.univ (m := Memref.whole cc0_scratch4) (Finset.subset_univ _)) $$ H10; iintro H10
  iapply (wp_store 𝒱₀ (c : Thread nD τ) none Set.univ (m := Memref.whole cc0_scratch4)
    (r := Rect.unit (s := S2048x1024) ![0, 0] S2048x1024.size inb_S2048x1024_S2048x1024_0_0) (Mk := Finset.univ) (Finset.subset_univ _)) $$ H10; iintro H10
  iapply (wp_load 𝒱₀ (c : Thread nD τ) none Set.univ (m := Memref.whole cc0_scratch4) (Finset.subset_univ _)) $$ H10; iintro H10
  iapply (wp_load 𝒱₀ (c : Thread nD τ) none Set.univ (m := Memref.whole cc0_scratch5) (Finset.subset_univ _)) $$ H11; iintro H11
  iapply (wp_store 𝒱₀ (c : Thread nD τ) none Set.univ (m := Memref.whole cc0_scratch5)
    (r := Rect.unit (s := S8192x1024) ![r0, 0] S2048x1024.size inb2) (Mk := Finset.univ) (Finset.subset_univ _)) $$ H11; iintro H11
  iapply (copy_step c k (n := 23) (h := by decide) rfl rfl h_S2048x1024 (Finset.subset_univ _)
    ((set_squeeze_box main_v1_1 ![c.val, r0, 0] S1x2048x1024.size inb3 h3 S2048x1024 hq).le.trans hS)) $$ [H10 Hg Ho HO]
  · isplitr; · iexact Hl
    isplitl [H10]; · iexact H10
    isplitl [Hg]; · iexact Hg
    isplitl [Ho]; · iexact Ho
    iexact HO
  iintro ⟨H10, Hg, Ho, HO⟩
  iapply Hk
  isplitr; · iexact Hl
  isplitl [Hw]; · iexact Hw
  isplitl [H9]; · iexists _; iexact H9
  isplitl [H10]; · iexists _; iexact H10
  isplitl [H11]
  · iexists _; isplitr; rotate_left
    · iexact H11
    ipureintro
    refine fills_write ((Memref.whole cc0_scratch5).access (Rect.unit (s := S8192x1024) ![r0, 0] S2048x1024.size inb2)) ?_ h11 ?_
    · exact (quarter_w m c r0 inb1 h1 h1).trans (congrArg k0_pay2
        (((load_cast _).trans (store_cast _ _)).trans (congrArg k0_pay1 (load_copied _ _))).symm)
    · intro i hi
      have hi := mem_box2.mp hi
      by_cases h : (i 0).val < r0
      · left; exact mem_box2.mpr ⟨⟨Nat.zero_le _, by show _ < 0 + r0; omega⟩, hi.2⟩
      · right
        refine (set_slice_box cc0_scratch5 ![r0, 0] S2048x1024.size inb2 (fun _ => rfl)).ge (mem_box2.mpr ⟨⟨?_, ?_⟩, hi.2⟩)
        · show r0 ≤ _; omega
        · have := hi.1.2; change _ < 0 + (r0 + 2048) at this; show _ < r0 + 2048; omega
  isplitl [Hg]
  · iexists _; isplitr; rotate_left
    · iexact Hg
    ipureintro
    refine fills_write (((Memref.whole main_v1_1).slice (Rect.unit (s := S4x8192x1024) ![c.val, r0, 0] S1x2048x1024.size inb3) h3).squeeze S2048x1024 hq).view ?_ hg ?_
    · refine (quarter_g m c r0 inb3 h3 hq inb1 h1).trans ?_
      exact ((store_cast _ _).trans (congrArg k0_pay1 (load_copied _ _))).symm
    · intro i hi
      exact (hD i hi).imp_right fun h => (set_squeeze_box main_v1_1 ![c.val, r0, 0] S1x2048x1024.size inb3 h3 S2048x1024 hq).ge h
  isplitl [Hi]; · iexact Hi
  isplitl [Ho]; · iexact Ho
  iexact HO

end Chunks

end Cert.KProof

end
-- ==== Proof.Tiles.lean ====
/-
A chunk of `x` cast and written back, and one row tile computed and written out.
-/
module

public import proofs.«01_k».proof.Proof.Chunks
public import Idealize.ShloMosaic.Lib.Pipeline.ValueKit.Geometry
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Tiles
variable {α : Type} (m : (ℓ : Loc nD τ sig) → Buf (Elt F) ℓ) (c : Dev nD) (k : ℕ)

/-! ## A chunk of `x` -/

theorem chunk_x (r0 : ℕ) (inb) (h) (h') :
    ((Memref.whole main_v1_2).slice (Rect.unit (s := S2048x8192) ![r0, 0] S256x8192.size inb) h).view.read (Elt F) (Xb m c)
      = k0_pay10 (((Memref.whole main_arg0).slice (Rect.unit (s := S2048x8192) ![r0, 0] S256x8192.size inb) h').view.read (Elt F) (Xf m c)) := by
  unfold k0_pay10
  simp only [shapeCast_self]
  rfl

omit [FloatOps F] in
theorem load_chunk (f w : Vec F S256x8192 .f32) :
    (Memref.whole cc0_scratch2).view.readAt (Elt F) (Rect.unit (s := S256x8192) ![0, 0] S256x8192.size inb_S256x8192_S256x8192_0_0).toLoadRect
      ((Memref.whole cc0_scratch2).view.write (Elt F) f w Finset.univ) = w :=
  (Memref.readAt_unit_zero (Elt F) cc0_scratch2 hz2 _ _).trans (View.write_whole_univ _ _ _)

omit [FloatOps F] in
theorem read_chunk (f : Vec F S512x8192 .bf16) (w : Vec F S256x8192 .bf16) (h) :
    ((Memref.whole cc0_scratch0).slice (Rect.unit (s := S512x8192) ![0, 0] S256x8192.size inb_S512x8192_S256x8192_0_0) h).view.read (Elt F)
      (((Memref.whole cc0_scratch0).access (Rect.unit (s := S512x8192) ![0, 0] S256x8192.size inb_S512x8192_S256x8192_0_0)).write (Elt F) f w Finset.univ) = w :=
  View.read_write_univ _ _

/-- A chunk of 256 rows of `x`: fetched, cast and written back. -/
theorem x_step {Q : α → sProp 𝕄} (r0 : ℕ) {pa : Vec F S256x8192 .f32 → FVec F S256x8192 .bf16} (hpa : pa = k0_pay10)
    {inb1 inb2 h1 h2 h3 e1 e2 e3 e4 e5 f1 f2 f3 f4 f5 l1 l2 s1 s2} {kk : PUnit → Pg F α} :
    iprop(levAts L lv ∗ (at_ c main_arg0 ↦{fullShare} m (at_ c main_arg0)) ∗ anyP (at_ c cc0_scratch2) Finset.univ ∗ anyP (at_ c cc0_scratch0) Finset.univ
        ∗ filled (at_ c main_v1_2) Finset.univ (box ![0, 0] ![r0, 8192]) (Xb m c)
        ∗ semVal (kcell c (dS 22)) 0 ∗ semVal (kcell c (dS 23)) 0 ∗ owed c k)
      ⊢ iprop(((levAts L lv ∗ (at_ c main_arg0 ↦{fullShare} m (at_ c main_arg0)) ∗ anyP (at_ c cc0_scratch2) Finset.univ ∗ anyP (at_ c cc0_scratch0) Finset.univ
        ∗ filled (at_ c main_v1_2) Finset.univ (box ![0, 0] ![r0 + 256, 8192]) (Xb m c)
        ∗ semVal (kcell c (dS 22)) 0 ∗ semVal (kcell c (dS 23)) 0 ∗ owed c k) -∗ WP c (kk ⟨⟩) Q)
        -∗ WP c (
          Prog.op (.enqueueDma ((Memref.whole main_arg0).slice (Rect.unit (s := S2048x8192) ![r0, 0] S256x8192.size inb1) h1)
            (.here (Memref.whole cc0_scratch2)) (.dma cc0_scratch12.sem) e1 e2 e3) fun _ =>
          Prog.op (.waitDma2 cc0_scratch12.sem ((Memref.whole main_arg0).slice (Rect.unit (s := S2048x8192) ![r0, 0] S256x8192.size inb1) h1)
            (Memref.whole cc0_scratch2) e4 e5) fun _ =>
          Prog.op (.load (Memref.whole cc0_scratch2) (Rect.unit (s := S256x8192) ![0, 0] S256x8192.size inb_S256x8192_S256x8192_0_0).toLoadRect l1) fun v =>
          Prog.op (.load (Memref.whole cc0_scratch0) (Rect.unit (s := S512x8192) ![0, 0] S256x8192.size inb_S512x8192_S256x8192_0_0).toLoadRect l2) fun _ =>
          Prog.op (.store (Memref.whole cc0_scratch0) (Rect.unit (s := S512x8192) ![0, 0] S256x8192.size inb_S512x8192_S256x8192_0_0) (pa v) Finset.univ s1 s2) fun _ =>
          Prog.op (.enqueueDma ((Memref.whole cc0_scratch0).slice (Rect.unit (s := S512x8192) ![0, 0] S256x8192.size inb_S512x8192_S256x8192_0_0) h2)
            (.here ((Memref.whole main_v1_2).slice (Rect.unit (s := S2048x8192) ![r0, 0] S256x8192.size inb2) h3)) (.dma cc0_scratch13.sem) f1 f2 f3) fun _ =>
          Prog.op (.waitDma2 cc0_scratch13.sem ((Memref.whole cc0_scratch0).slice (Rect.unit (s := S512x8192) ![0, 0] S256x8192.size inb_S512x8192_S256x8192_0_0) h2)
            ((Memref.whole main_v1_2).slice (Rect.unit (s := S2048x8192) ![r0, 0] S256x8192.size inb2) h3) f4 f5) kk) Q) := by
  subst hpa
  unfold anyP filled
  iintro ⟨#Hl, Hx, ⟨%f8, H8⟩, ⟨%f6, H6⟩, ⟨%fb, %hb, Hb⟩, Hi, Ho, HO⟩ Hk
  iapply (copy_step c k (n := 22) (h := by decide) rfl rfl h_S256x8192 (Finset.subset_univ _) (Finset.subset_univ _)) $$ [Hx H8 Hi HO]
  · isplitr; · iexact Hl
    isplitl [Hx]; · iexact Hx
    isplitl [H8]; · iexact H8
    isplitl [Hi]; · iexact Hi
    iexact HO
  iintro ⟨Hx, H8, Hi, HO⟩
  iapply (wp_load 𝒱₀ (c : Thread nD τ) none Set.univ (m := Memref.whole cc0_scratch2) (Finset.subset_univ _)) $$ H8; iintro H8
  iapply (wp_load 𝒱₀ (c : Thread nD τ) none Set.univ (m := Memref.whole cc0_scratch0) (Finset.subset_univ _)) $$ H6; iintro H6
  iapply (wp_store 𝒱₀ (c : Thread nD τ) none Set.univ (m := Memref.whole cc0_scratch0)
    (r := Rect.unit (s := S512x8192) ![0, 0] S256x8192.size inb_S512x8192_S256x8192_0_0) (Mk := Finset.univ) (Finset.subset_univ _)) $$ H6; iintro H6
  iapply (copy_step c k (n := 23) (h := by decide) rfl rfl h_S256x8192 (Finset.subset_univ _) (Finset.subset_univ _)) $$ [H6 Hb Ho HO]
  · isplitr; · iexact Hl
    isplitl [H6]; · iexact H6
    isplitl [Hb]; · iexact Hb
    isplitl [Ho]; · iexact Ho
    iexact HO
  iintro ⟨H6, Hb, Ho, HO⟩
  iapply Hk
  isplitr; · iexact Hl
  isplitl [Hx]; · iexact Hx
  isplitl [H8]; · iexists _; iexact H8
  isplitl [H6]; · iexists _; iexact H6
  isplitl [Hb]
  · iexists _; isplitr; rotate_left
    · iexact Hb
    ipureintro
    refine fills_write ((Memref.whole main_v1_2).slice (Rect.unit (s := S2048x8192) ![r0, 0] S256x8192.size inb2) h3).view ?_ hb ?_
    · exact (chunk_x m c r0 inb2 h3 h1).trans ((read_chunk _ _ _).trans (congrArg k0_pay10 (load_chunk _ _))).symm
    · intro i hi
      have hi := mem_box2.mp hi
      by_cases h : (i 0).val < r0
      · left; exact mem_box2.mpr ⟨⟨Nat.zero_le _, by show _ < 0 + r0; omega⟩, hi.2⟩
      · right
        refine (set_slice_box main_v1_2 ![r0, 0] S256x8192.size inb2 (fun _ => rfl)).ge (mem_box2.mpr ⟨⟨?_, ?_⟩, hi.2⟩)
        · show r0 ≤ _; omega
        · have := hi.1.2; change _ < 0 + (r0 + 256) at this; show _ < r0 + 256; omega
  isplitl [Hi]; · iexact Hi
  isplitl [Ho]; · iexact Ho
  iexact HO

/-! ## A row tile -/

/-- Row tile `r` is rows `512 r …` of the cast `x`. -/
theorem read_tile (r : Fin 4) {o : Fin 2 → ℕ} (ho : o = ![512 * r.val, 0]) (inb) (h) :
    ((Memref.whole main_v1_2).slice (Rect.unit (s := S2048x8192) o S512x8192.size inb) h).view.read (Elt F) (Xb m c) = tile m c r := by
  subst ho
  funext j
  show Xb m c ((Rect.unit (s := S2048x8192) ![512 * r.val, 0] S512x8192.size inb).emb j) = Xb m c _
  congr 1
  funext a
  apply Fin.ext
  have h1 := ValueKit.rect_emb_unit_val (s := S2048x8192) ![512 * r.val, 0] S512x8192.size inb j
  match a with
  | ⟨0, _⟩ => exact h1 0
  | ⟨1, _⟩ => exact (h1 1).trans (Nat.zero_add _)

omit [FloatOps F] in
theorem load_tile (f w : Vec F S512x8192 .bf16) :
    (Memref.whole cc0_scratch0).view.readAt (Elt F) (Rect.unit (s := S512x8192) ![0, 0] S512x8192.size inb_S512x8192_S512x8192_0_0).toLoadRect
      ((Memref.whole cc0_scratch0).view.write (Elt F) f w Finset.univ) = w :=
  (Memref.readAt_unit_zero (Elt F) cc0_scratch0 hz2 _ _).trans (View.write_whole_univ _ _ _)

omit [FloatOps F] in
theorem load_weights (f : Vec F S8192x1024 .bf16) :
    (Memref.whole cc0_scratch5).view.readAt (Elt F) (Rect.unit (s := S8192x1024) ![0, 0] S8192x1024.size inb_S8192x1024_S8192x1024_0_0).toLoadRect f = f :=
  Memref.readAt_unit_zero (Elt F) cc0_scratch5 hz2 _ _

omit [FloatOps F] in
theorem store_tile (f w : Vec F S512x1024 .f32) :
    ((Memref.whole cc0_scratch1).access (Rect.unit (s := S512x1024) ![0, 0] S512x1024.size inb_S512x1024_S512x1024_0_0)).write (Elt F) f w Finset.univ = w :=
  Memref.write_access_unit_zero_univ (Elt F) cc0_scratch1 hz2 _ _ _

/-- What a row loop works with: the cast `x`, two row buffers, the weights of device `s`, the two local semaphores. -/
def work (s : Dev nD) : sProp 𝕄 :=
  iprop(levAts L lv ∗ (at_ c main_v1_2 ↦{fullShare} Xb m c) ∗ anyP (at_ c cc0_scratch0) Finset.univ ∗ anyP (at_ c cc0_scratch1) Finset.univ
    ∗ (at_ c cc0_scratch5 ↦{fullShare} Wb m s) ∗ semVal (kcell c (dS 22)) 0 ∗ semVal (kcell c (dS 23)) 0)

/-- One row tile: fetched, multiplied with the weights, passed through the activation and written out. -/
theorem trip_step {Q : α → sProp 𝕄} (s : Dev nD) (r : Fin 4) {o : Fin 2 → ℕ} (ho : o = ![512 * r.val, 0])
    {pa : Vec F S512x8192 .bf16 → Vec F S8192x1024 .bf16 → FVec F S512x1024 .f32} (hpa : pa = k0_pay20)
    {dst : Memref sig .tc .hbm S512x1024 .f32} {S D D' : Finset (Idx (dst.view.loc (c : Thread nD τ)))}
    {G' : Buf (Elt F) (dst.view.loc (c : Thread nD τ))} (hG : dst.view.read (Elt F) G' = T m c s r)
    (hS : dst.view.set ⊆ S) (hD : ∀ i ∈ D', i ∈ D ∨ i ∈ dst.view.set)
    {inb1 h1 e1 e2 e3 e4 e5 f1 f2 f3 f4 f5 l1 l2 l3 s1 s2} {kk : PUnit → Pg F α} :
    iprop(work m c s ∗ owed c k ∗ filled (dst.view.loc (c : Thread nD τ)) S D G')
      ⊢ iprop(((work m c s ∗ owed c k ∗ filled (dst.view.loc (c : Thread nD τ)) S D' G') -∗ WP c (kk ⟨⟩) Q)
        -∗ WP c (
          Prog.op (.enqueueDma ((Memref.whole main_v1_2).slice (Rect.unit (s := S2048x8192) o S512x8192.size inb1) h1)
            (.here (Memref.whole cc0_scratch0)) (.dma cc0_scratch12.sem) e1 e2 e3) fun _ =>
          Prog.op (.waitDma2 cc0_scratch12.sem ((Memref.whole main_v1_2).slice (Rect.unit (s := S2048x8192) o S512x8192.size inb1) h1)
            (Memref.whole cc0_scratch0) e4 e5) fun _ =>
          Prog.op (.load (Memref.whole cc0_scratch0) (Rect.unit (s := S512x8192) ![0, 0] S512x8192.size inb_S512x8192_S512x8192_0_0).toLoadRect l1) fun v =>
          Prog.op (.load (Memref.whole cc0_scratch5) (Rect.unit (s := S8192x1024) ![0, 0] S8192x1024.size inb_S8192x1024_S8192x1024_0_0).toLoadRect l2) fun v' =>
          Prog.op (.load (Memref.whole cc0_scratch1) (Rect.unit (s := S512x1024) ![0, 0] S512x1024.size inb_S512x1024_S512x1024_0_0).toLoadRect l3) fun _ =>
          Prog.op (.store (Memref.whole cc0_scratch1) (Rect.unit (s := S512x1024) ![0, 0] S512x1024.size inb_S512x1024_S512x1024_0_0) (pa v v') Finset.univ s1 s2) fun _ =>
          Prog.op (.enqueueDma (Memref.whole cc0_scratch1) (.here dst) (.dma cc0_scratch13.sem) f1 f2 f3) fun _ =>
          Prog.op (.waitDma2 cc0_scratch13.sem (Memref.whole cc0_scratch1) dst f4 f5) kk) Q) := by
  subst hpa
  unfold work anyP filled
  iintro ⟨⟨#Hl, Hx, ⟨%f6, H6⟩, ⟨%f7, H7⟩, Hw, Hi, Ho⟩, HO, ⟨%fd, %hd, Hd⟩⟩ Hk
  iapply (copy_step c k (n := 22) (h := by decide) rfl rfl h_S512x8192 (Finset.subset_univ _) (Finset.subset_univ _)) $$ [Hx H6 Hi HO]
  · isplitr; · iexact Hl
    isplitl [Hx]; · iexact Hx
    isplitl [H6]; · iexact H6
    isplitl [Hi]; · iexact Hi
    iexact HO
  iintro ⟨Hx, H6, Hi, HO⟩
  iapply (wp_load 𝒱₀ (c : Thread nD τ) none Set.univ (m := Memref.whole cc0_scratch0) (Finset.subset_univ _)) $$ H6; iintro H6
  iapply (wp_load 𝒱₀ (c : Thread nD τ) none Set.univ (m := Memref.whole cc0_scratch5) (Finset.subset_univ _)) $$ Hw; iintro Hw
  iapply (wp_load 𝒱₀ (c : Thread nD τ) none Set.univ (m := Memref.whole cc0_scratch1) (Finset.subset_univ _)) $$ H7; iintro H7
  iapply (wp_store 𝒱₀ (c : Thread nD τ) none Set.univ (m := Memref.whole cc0_scratch1)
    (r := Rect.unit (s := S512x1024) ![0, 0] S512x1024.size inb_S512x1024_S512x1024_0_0) (Mk := Finset.univ) (Finset.subset_univ _)) $$ H7; iintro H7
  iapply (copy_step c k (n := 23) (h := by decide) rfl rfl h_S512x1024 (Finset.subset_univ _) hS) $$ [H7 Hd Ho HO]
  · isplitr; · iexact Hl
    isplitl [H7]; · iexact H7
    isplitl [Hd]; · iexact Hd
    isplitl [Ho]; · iexact Ho
    iexact HO
  iintro ⟨H7, Hd, Ho, HO⟩
  iapply Hk
  isplitr [Hd HO]
  · isplitr; · iexact Hl
    isplitl [Hx]; · iexact Hx
    isplitl [H6]; · iexists _; iexact H6
    isplitl [H7]; · iexists _; iexact H7
    isplitl [Hw]; · iexact Hw
    isplitl [Hi]; · iexact Hi
    iexact Ho
  isplitl [HO]; · iexact HO
  iexists _; isplitr; rotate_left
  · iexact Hd
  ipureintro
  refine fills_write dst.view ?_ hd hD
  exact hG.trans ((store_tile _ _).trans (congrArg₂ k0_pay20 ((load_tile _ _).trans (read_tile m c r ho inb1 h1)) (load_weights _))).symm

end Tiles

end Cert.KProof

end
-- ==== Proof.Sends.lean ====
/-
The sends between devices, the loops over row tiles and the staging of a slot of the gathered weights.
-/
module

public import proofs.«01_k».proof.Proof.Tiles
public import Idealize.ShloMosaic.Lib.Pipeline.ValueKit.Geometry
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Sends
variable {α : Type} (m : (ℓ : Loc nD τ sig) → Buf (Elt F) ℓ) (c : Dev nD) (k : ℕ)

/-! ## The contents at an index -/

theorem Y_at (e s : Dev nD) (r : Fin 4) (j : S512x1024.Idx) (i : S2048x1024.Idx) (h0 : (i 0).val = 512 * r.val + (j 0).val)
    (h1 : (i 1).val = (j 1).val) : Y m e s i = T m e s r j := by
  have hj := idx2_lt0 j
  unfold Y
  have hr : (⟨(i 0).val / 512, by have := idx2_lt0 i; omega⟩ : Fin 4) = r := Fin.ext (by show (i 0).val / 512 = r.val; omega)
  rw [hr]
  congr 1
  funext a
  match a with
  | ⟨0, _⟩ => exact Fin.ext (by show (i 0).val % 512 = (j 0).val; omega)
  | ⟨1, _⟩ => exact Fin.ext h1

theorem Out_at (d e : Dev nD) (j : S2048x1024.Idx) (i : S8192x1024.Idx) (h0 : (i 0).val = 2048 * d.val + (j 0).val)
    (h1 : (i 1).val = (j 1).val) : Out m e i = Y m d e j := by
  have hj := idx2_lt0 j
  unfold Out
  have hd : (⟨(i 0).val / 2048, by have := idx2_lt0 i; show _ < 4; omega⟩ : Dev nD) = d := Fin.ext (by show (i 0).val / 2048 = d.val; omega)
  rw [hd]
  congr 1
  funext a
  match a with
  | ⟨0, _⟩ => exact Fin.ext (by show (i 0).val % 2048 = (j 0).val; omega)
  | ⟨1, _⟩ => exact Fin.ext h1

theorem Res_at (e : Dev nD) (n : ℕ) (j : S2048x1024.Idx) (i : S3x2048x1024.Idx) (h0 : (i 0).val = n) (h1 : (i 1).val = (j 0).val)
    (h2 : (i 2).val = (j 1).val) : Res m e i = Y m e (dest e n) j := by
  unfold Res
  rw [h0]
  congr 1
  funext a
  match a with
  | ⟨0, _⟩ => exact Fin.ext h1
  | ⟨1, _⟩ => exact Fin.ext h2

/-! ## Sending half a slot of the gathered weights -/

theorem send_wg {Q : α → sProp 𝕄} (K : Dev nD × Fin 23 → ℕ) {nd c' : Dev nD} (hnd : nd = c')
    (a b : ℕ) (ha : a < 12) (hb : b < 12) (ha' : a < 25) (hb' : b < 25) {sS sR : DmaSem sig} (hS : sS = (⟨a, ha'⟩ : Fin 25)) (hR : sR = (⟨b, hb'⟩ : Fin 25))
    (s : Dev nD) (hf : ℕ) {o1 o2 : Fin 3 → ℕ} (ho1 : o1 = ![s.val, 4096 * hf, 0]) (ho2 : o2 = ![s.val, 4096 * hf, 0])
    {q : PosShare TreeShare} (X : sProp 𝕄) (hk : (debts c).drop k = kcell c' (dS b hb') :: (debts c).drop (k + 1))
    (hpa : dmaPay m c a = iprop(emp)) (hpb : iprop(wgP m c' s hf ∗ X) ⊢ dmaPay m c' b)
    {inb1 inb2 t1 t2 q1 q2 h₄ h₁ h₂ h₃} {kk : PUnit → Pg F α} :
    iprop(Recs m K ∗ (at_ c main_v1_1 ↦[wgB s hf]{q} G m) ∗ wgAny c' s hf ∗ X ∗ tokD c a ha' ∗ tokD c' b hb' ∗ owed c k)
      ⊢ iprop(((credD c a ha' ∗ owed c (k + 1)) -∗ WP c (kk ⟨⟩) Q)
        -∗ WP c (Prog.op (.enqueueDma (((Memref.whole main_v1_1).slice (Rect.unit (s := S4x8192x1024) o1 S1x4096x1024.size inb1) t1).squeeze S4096x1024 q1)
          (.remote (nd : Thread nD τ) (((Memref.whole main_v1_1).slice (Rect.unit (s := S4x8192x1024) o2 S1x4096x1024.size inb2) t2).squeeze S4096x1024 q2)
            (.dma sS) h₄) (.dma sR) h₁ h₂ h₃) kk) Q) := by
  subst ho1 ho2
  have a22 : a < 22 := Nat.lt_trans ha (by decide)
  have b22 : b < 22 := Nat.lt_trans hb (by decide)
  have hN : NA = amt b := by unfold amt; rw [if_pos hb]
  have hab : amt a = amt b := by unfold amt; rw [if_pos ha, if_pos hb]
  unfold NA at hN
  unfold wgAny
  have H := send_step m c k K hnd a b ha' a22 hb' b22 hS hR (kk := kk) (Q := Q) (X := X) (q := q) (fs := G m)
    (src := (((Memref.whole main_v1_1).slice (Rect.unit (s := S4x8192x1024) ![s.val, 4096 * hf, 0] S1x4096x1024.size inb1) t1).squeeze S4096x1024 q1))
    (dst := (((Memref.whole main_v1_1).slice (Rect.unit (s := S4x8192x1024) ![s.val, 4096 * hf, 0] S1x4096x1024.size inb2) t2).squeeze S4096x1024 q2))
    (h₁ := h₁) (h₂ := h₂) (h₃ := h₃) (h₄ := h₄) (G m)
    (set_squeeze_box main_v1_1 _ _ inb1 t1 _ q1) (set_squeeze_box main_v1_1 _ _ inb2 t2 _ q2) rfl hN hab hk hpa hpb
  exact H

/-! ## Sending a staged result -/

theorem send_out_read (n r : ℕ) (slot : ℕ) (c' : Dev nD) (hc' : c' = dest c slot) (inb1 inb2) (t1 t2) (hq)  :
    ((Memref.whole main_v1_0).slice (Rect.unit (s := S8192x1024) ![2048 * c.val + r, 0] (⟨2, ![n, 1024]⟩ : Shape).size inb2) t2).view.read (Elt F) (Out m c')
      = (((Memref.whole main_v1_3).slice (Rect.unit (s := S3x2048x1024) ![slot, r, 0] (⟨3, ![1, n, 1024]⟩ : Shape).size inb1) t1).squeeze (⟨2, ![n, 1024]⟩ : Shape) hq).view.read (Elt F) (Res m c) := by
  funext j
  have hn : r + n ≤ 2048 := inb1 1
  have hj : (j 0).val < n := idx2_lt0 j
  have e := Shape.reshapeEquiv_cons_one hq.numel_eq j
  have g1 := ValueKit.rect_emb_unit_val (s := S3x2048x1024) ![slot, r, 0] (⟨3, ![1, n, 1024]⟩ : Shape).size inb1 (Shape.reshapeEquiv hq.numel_eq j)
  have g2 := ValueKit.rect_emb_unit_val (s := S8192x1024) ![2048 * c.val + r, 0] (⟨2, ![n, 1024]⟩ : Shape).size inb2 j
  show Out m c' ((Rect.unit (s := S8192x1024) ![2048 * c.val + r, 0] (⟨2, ![n, 1024]⟩ : Shape).size inb2).emb j)
    = Res m c ((Rect.unit (s := S3x2048x1024) ![slot, r, 0] (⟨3, ![1, n, 1024]⟩ : Shape).size inb1).emb (Shape.reshapeEquiv hq.numel_eq j))
  rw [Out_at m c c' (ix2 ⟨r + (j 0).val, by omega⟩ (j 1)), Res_at m c slot (ix2 ⟨r + (j 0).val, by omega⟩ (j 1)), hc']
  · rw [g1 0, e]; rfl
  · rw [g1 1, e]; rfl
  · rw [g1 2, e]; exact Nat.zero_add _
  · rw [g2 0]; exact Nat.add_assoc _ _ _
  · rw [g2 1]; exact Nat.zero_add _

theorem send_out {Q : α → sProp 𝕄} (K : Dev nD × Fin 23 → ℕ) {nd c' : Dev nD} (hnd : nd = c') (n r slot : ℕ) (hc' : c' = dest c slot)
    (a b : ℕ) (ha : a < 22) (hb : b < 22) (ha' : a < 25) (hb' : b < 25) {sS sR : DmaSem sig} (hS : sS = (⟨a, ha'⟩ : Fin 25)) (hR : sR = (⟨b, hb'⟩ : Fin 25))
    {o1 : Fin 3 → ℕ} {o2 : Fin 2 → ℕ} (ho1 : o1 = ![slot, r, 0]) (ho2 : o2 = ![2048 * c.val + r, 0])
    (hN : sig.dmaCredit .tc .hbm (2 : Fin 6) (⟨2, ![n, 1024]⟩ : Shape) .f32 = amt b) (hab : amt a = amt b)
    (hk : (debts c).drop k = kcell c' (dS b hb') :: (debts c).drop (k + 1))
    (hpa : dmaPay m c a = iprop(emp)) (hpb : outP m c' (2048 * c.val + r) n ⊢ dmaPay m c' b)
    {inb1 inb2 t1 t2 q1 h₄ h₁ h₂ h₃} {kk : PUnit → Pg F α} :
    iprop(Recs m K ∗ (at_ c main_v1_3 ↦[box ![slot, r, 0] ![1, n, 1024]]{fullShare} Res m c) ∗ outAny c' (2048 * c.val + r) n
        ∗ tokD c a ha' ∗ tokD c' b hb' ∗ owed c k)
      ⊢ iprop(((credD c a ha' ∗ owed c (k + 1)) -∗ WP c (kk ⟨⟩) Q)
        -∗ WP c (Prog.op (.enqueueDma (((Memref.whole main_v1_3).slice (Rect.unit (s := S3x2048x1024) o1 (⟨3, ![1, n, 1024]⟩ : Shape).size inb1) t1).squeeze (⟨2, ![n, 1024]⟩ : Shape) q1)
          (.remote (nd : Thread nD τ) ((Memref.whole main_v1_0).slice (Rect.unit (s := S8192x1024) o2 (⟨2, ![n, 1024]⟩ : Shape).size inb2) t2)
            (.dma sS) h₄) (.dma sR) h₁ h₂ h₃) kk) Q) := by
  subst ho1 ho2
  unfold outAny
  have H := send_step m c k K hnd a b ha' ha hb' hb hS hR (kk := kk) (Q := Q) (X := iprop(emp)) (q := fullShare) (fs := Res m c)
    (Ss := box ![slot, r, 0] ![1, n, 1024]) (Sd := outB (2048 * c.val + r) n)
    (src := (((Memref.whole main_v1_3).slice (Rect.unit (s := S3x2048x1024) ![slot, r, 0] (⟨3, ![1, n, 1024]⟩ : Shape).size inb1) t1).squeeze (⟨2, ![n, 1024]⟩ : Shape) q1))
    (dst := (Memref.whole main_v1_0).slice (Rect.unit (s := S8192x1024) ![2048 * c.val + r, 0] (⟨2, ![n, 1024]⟩ : Shape).size inb2) t2)
    (h₁ := h₁) (h₂ := h₂) (h₃ := h₃) (h₄ := h₄) (Out m c')
    (set_squeeze_box main_v1_3 _ _ inb1 t1 _ q1) (set_slice_box main_v1_0 _ _ inb2 t2)
    (send_out_read m c n r slot c' hc' inb1 inb2 t1 t2 q1) hN hab hk hpa (by iintro ⟨H, -⟩; iapply hpb; unfold outP; iexact H)
  iintro ⟨HR, Hs, Hd, Ha, Hb, HO⟩ Hk
  iapply H $$ [HR Hs Hd Ha Hb HO]
  · isplitl [HR]; · iexact HR
    isplitl [Hs]; · iexact Hs
    isplitl [Hd]; · iexact Hd
    isplitr; · iempintro
    isplitl [Ha]; · iexact Ha
    isplitl [Hb]; · iexact Hb
    iexact HO
  iexact Hk

/-! ## Loops over row tiles -/

/-- A loop whose trips fill a piece of a buffer step by step. -/
theorem loop_step {Q : α → sProp 𝕄} (s : Dev nD) {w : ℕ} (lp : Scf.Loop w) (ok : lp.OK) (body : Fin lp.trips → Unit → Pg F Unit) (n : ℕ)
    (hn : lp.trips = n) {ℓ : Loc nD τ sig} {S : Finset (Idx ℓ)} {G' : Buf (Elt F) ℓ} (D : ℕ → Finset (Idx ℓ)) (h0 : D 0 = ∅) (hD : S ⊆ D n)
    (hstep : ∀ (t : Fin lp.trips), iprop(work m c s ∗ owed c k ∗ filled ℓ S (D t.val) G')
      ⊢ WP c (body t ⟨⟩) fun _ => iprop(work m c s ∗ owed c k ∗ filled ℓ S (D (t.val + 1)) G'))
    {kk : Unit → Pg F α} :
    iprop(work m c s ∗ owed c k ∗ anyP ℓ S)
      ⊢ iprop(((work m c s ∗ owed c k ∗ (ℓ ↦[S]{fullShare} G')) -∗ WP c (kk ⟨⟩) Q) -∗ WP c (Scf.Loop.for lp ok ⟨⟩ body >>= kk) Q) := by
  iintro ⟨Hw, HO, Hd⟩ Hk
  iapply (Scf.wp_for_bind frame (wpE (defs₀ (F := F)) 𝒱₀ (c : Thread nD τ) none) Set.univ lp.lb lp.ub lp.st ok ⟨⟩ body
    (fun t _ => iprop(work m c s ∗ owed c k ∗ filled ℓ S (D t) G')) (fun t _ => hstep t)) $$ [Hw HO Hd]
  · isplitl [Hw]; · iexact Hw
    isplitl [HO]; · iexact HO
    rw [h0]; iapply (filled_none (F := F)); iexact Hd
  iintro %acc ⟨Hw, HO, Hd⟩
  iapply Hk
  isplitl [Hw]; · iexact Hw
  isplitl [HO]; · iexact HO
  iapply (filled_all (F := F) (show S ⊆ D (Scf.trips lp.lb lp.ub lp.st) from by (show S ⊆ D lp.trips); rw [hn]; exact hD)); iexact Hd

/-- A program that has ended. -/
theorem ret_step {α : Type} {a : α} {R : α → sProp 𝕄} : R a ⊢ WP (F := F) c (Prog.ret a) R := by
  show R a ⊢ wp _ _ _ (Prog.ret a) R
  rw [wp_ret]
  iintro H
  imodintro
  iexact H

/-- One trip whose tile goes to the own block of the result. -/
theorem out_trip (t : ℕ) (r : Fin 4) (hr : r.val = t) {o o' : Fin 2 → ℕ} (ho : o = ![512 * r.val, 0]) (ho' : o' = ![2048 * c.val + 512 * t, 0])
    {pa : Vec F S512x8192 .bf16 → Vec F S8192x1024 .bf16 → FVec F S512x1024 .f32} (hpa : pa = k0_pay20)
    {inb1 inb2 h1 h2 e1 e2 e3 e4 e5 f1 f2 f3 f4 f5 l1 l2 l3 s1 s2} :
    iprop(work m c c ∗ owed c k ∗ filled (at_ c main_v1_0) (outB (2048 * c.val) 2048) (outB (2048 * c.val) (512 * t)) (Out m c))
      ⊢ WP c (
          Prog.op (.enqueueDma ((Memref.whole main_v1_2).slice (Rect.unit (s := S2048x8192) o S512x8192.size inb1) h1)
            (.here (Memref.whole cc0_scratch0)) (.dma cc0_scratch12.sem) e1 e2 e3) fun _ =>
          Prog.op (.waitDma2 cc0_scratch12.sem ((Memref.whole main_v1_2).slice (Rect.unit (s := S2048x8192) o S512x8192.size inb1) h1)
            (Memref.whole cc0_scratch0) e4 e5) fun _ =>
          Prog.op (.load (Memref.whole cc0_scratch0) (Rect.unit (s := S512x8192) ![0, 0] S512x8192.size inb_S512x8192_S512x8192_0_0).toLoadRect l1) fun v =>
          Prog.op (.load (Memref.whole cc0_scratch5) (Rect.unit (s := S8192x1024) ![0, 0] S8192x1024.size inb_S8192x1024_S8192x1024_0_0).toLoadRect l2) fun v' =>
          Prog.op (.load (Memref.whole cc0_scratch1) (Rect.unit (s := S512x1024) ![0, 0] S512x1024.size inb_S512x1024_S512x1024_0_0).toLoadRect l3) fun _ =>
          Prog.op (.store (Memref.whole cc0_scratch1) (Rect.unit (s := S512x1024) ![0, 0] S512x1024.size inb_S512x1024_S512x1024_0_0) (pa v v') Finset.univ s1 s2) fun _ =>
          Prog.op (.enqueueDma (Memref.whole cc0_scratch1) (.here ((Memref.whole main_v1_0).slice (Rect.unit (s := S8192x1024) o' S512x1024.size inb2) h2)) (.dma cc0_scratch13.sem) f1 f2 f3) fun _ =>
          Prog.op (.waitDma2 cc0_scratch13.sem (Memref.whole cc0_scratch1) ((Memref.whole main_v1_0).slice (Rect.unit (s := S8192x1024) o' S512x1024.size inb2) h2) f4 f5) fun _ => Prog.ret PUnit.unit) fun _ =>
          iprop(work m c c ∗ owed c k ∗ filled (at_ c main_v1_0) (outB (2048 * c.val) 2048) (outB (2048 * c.val) (512 * (t + 1))) (Out m c)) := by
  subst ho'
  have ht : t < 4 := hr ▸ r.isLt
  have hset := set_slice_box main_v1_0 ![2048 * c.val + 512 * t, 0] S512x1024.size inb2 h2
  iintro H
  iapply (trip_step m c k c r ho hpa (dst := (Memref.whole main_v1_0).slice (Rect.unit (s := S8192x1024) ![2048 * c.val + 512 * t, 0] S512x1024.size inb2) h2)
    (S := outB (2048 * c.val) 2048) (D := outB (2048 * c.val) (512 * t)) (D' := outB (2048 * c.val) (512 * (t + 1))) (G' := Out m c) ?_ ?_ ?_) $$ H
  · funext j
    have hj := idx2_lt0 j
    have g := ValueKit.rect_emb_unit_val (s := S8192x1024) ![2048 * c.val + 512 * t, 0] S512x1024.size inb2 j
    show Out m c ((Rect.unit (s := S8192x1024) ![2048 * c.val + 512 * t, 0] S512x1024.size inb2).emb j) = T m c c r j
    rw [Out_at m c c (ix2 ⟨512 * t + (j 0).val, by omega⟩ (j 1)), Y_at m c c r j]
    · show 512 * t + (j 0).val = _; rw [hr]
    · rfl
    · rw [g 0]; exact Nat.add_assoc _ _ _
    · rw [g 1]; exact Nat.zero_add _
  · refine hset.le.trans fun i hi => ?_
    have hi := mem_box2.mp hi
    have h1 := hi.1.1; have h2 := hi.1.2
    change 2048 * c.val + 512 * t ≤ _ at h1; change _ < 2048 * c.val + 512 * t + 512 at h2
    exact mem_box2.mpr ⟨⟨by show 2048 * c.val ≤ _; omega, by show _ < 2048 * c.val + 2048; omega⟩, hi.2⟩
  · intro i hi
    have hi := mem_box2.mp hi
    have h1 := hi.1.1; have h2 := hi.1.2
    change 2048 * c.val ≤ _ at h1; change _ < 2048 * c.val + 512 * (t + 1) at h2
    by_cases h : (i 0).val < 2048 * c.val + 512 * t
    · exact Or.inl (mem_box2.mpr ⟨⟨h1, h⟩, hi.2⟩)
    · refine Or.inr (hset.ge (mem_box2.mpr ⟨⟨?_, ?_⟩, hi.2⟩))
      · show 2048 * c.val + 512 * t ≤ _; omega
      · show _ < 2048 * c.val + 512 * t + 512; omega
  iintro H
  iapply (ret_step (F := F) c) $$ H

/-- One trip whose tile is staged for device `s`. -/
theorem res_trip (slot r0 n : ℕ) (s : Dev nD) (hs : s = dest c slot) (t : ℕ) (r : Fin 4) (hr : 512 * r.val = r0 + 512 * t) (hn : 512 * t + 512 ≤ n)
    {o : Fin 2 → ℕ} {o' : Fin 3 → ℕ} (ho : o = ![512 * r.val, 0]) (ho' : o' = ![slot, r0 + 512 * t, 0])
    {pa : Vec F S512x8192 .bf16 → Vec F S8192x1024 .bf16 → FVec F S512x1024 .f32} (hpa : pa = k0_pay20)
    {inb1 inb2 h1 h2 hq e1 e2 e3 e4 e5 f1 f2 f3 f4 f5 l1 l2 l3 s1 s2} :
    iprop(work m c s ∗ owed c k ∗ filled (at_ c main_v1_3) (box ![slot, r0, 0] ![1, n, 1024]) (box ![slot, r0, 0] ![1, 512 * t, 1024]) (Res m c))
      ⊢ WP c (
          Prog.op (.enqueueDma ((Memref.whole main_v1_2).slice (Rect.unit (s := S2048x8192) o S512x8192.size inb1) h1)
            (.here (Memref.whole cc0_scratch0)) (.dma cc0_scratch12.sem) e1 e2 e3) fun _ =>
          Prog.op (.waitDma2 cc0_scratch12.sem ((Memref.whole main_v1_2).slice (Rect.unit (s := S2048x8192) o S512x8192.size inb1) h1)
            (Memref.whole cc0_scratch0) e4 e5) fun _ =>
          Prog.op (.load (Memref.whole cc0_scratch0) (Rect.unit (s := S512x8192) ![0, 0] S512x8192.size inb_S512x8192_S512x8192_0_0).toLoadRect l1) fun v =>
          Prog.op (.load (Memref.whole cc0_scratch5) (Rect.unit (s := S8192x1024) ![0, 0] S8192x1024.size inb_S8192x1024_S8192x1024_0_0).toLoadRect l2) fun v' =>
          Prog.op (.load (Memref.whole cc0_scratch1) (Rect.unit (s := S512x1024) ![0, 0] S512x1024.size inb_S512x1024_S512x1024_0_0).toLoadRect l3) fun _ =>
          Prog.op (.store (Memref.whole cc0_scratch1) (Rect.unit (s := S512x1024) ![0, 0] S512x1024.size inb_S512x1024_S512x1024_0_0) (pa v v') Finset.univ s1 s2) fun _ =>
          Prog.op (.enqueueDma (Memref.whole cc0_scratch1) (.here (((Memref.whole main_v1_3).slice (Rect.unit (s := S3x2048x1024) o' S1x512x1024.size inb2) h2).squeeze S512x1024 hq)) (.dma cc0_scratch13.sem) f1 f2 f3) fun _ =>
          Prog.op (.waitDma2 cc0_scratch13.sem (Memref.whole cc0_scratch1) (((Memref.whole main_v1_3).slice (Rect.unit (s := S3x2048x1024) o' S1x512x1024.size inb2) h2).squeeze S512x1024 hq) f4 f5) fun _ => Prog.ret PUnit.unit) fun _ =>
          iprop(work m c s ∗ owed c k ∗ filled (at_ c main_v1_3) (box ![slot, r0, 0] ![1, n, 1024]) (box ![slot, r0, 0] ![1, 512 * (t + 1), 1024]) (Res m c)) := by
  subst ho'
  have hset := set_squeeze_box main_v1_3 ![slot, r0 + 512 * t, 0] S1x512x1024.size inb2 h2 S512x1024 hq
  iintro H
  iapply (trip_step m c k s r ho hpa (dst := ((Memref.whole main_v1_3).slice (Rect.unit (s := S3x2048x1024) ![slot, r0 + 512 * t, 0] S1x512x1024.size inb2) h2).squeeze S512x1024 hq)
    (S := box ![slot, r0, 0] ![1, n, 1024]) (D := box ![slot, r0, 0] ![1, 512 * t, 1024]) (D' := box ![slot, r0, 0] ![1, 512 * (t + 1), 1024])
    (G' := Res m c) ?_ ?_ ?_) $$ H
  · funext j
    have hj := idx2_lt0 j
    have hrl := r.isLt
    have e := Shape.reshapeEquiv_cons_one hq.numel_eq j
    have g := ValueKit.rect_emb_unit_val (s := S3x2048x1024) ![slot, r0 + 512 * t, 0] S1x512x1024.size inb2 (Shape.reshapeEquiv hq.numel_eq j)
    show Res m c ((Rect.unit (s := S3x2048x1024) ![slot, r0 + 512 * t, 0] S1x512x1024.size inb2).emb (Shape.reshapeEquiv hq.numel_eq j)) = T m c s r j
    rw [Res_at m c slot (ix2 ⟨r0 + 512 * t + (j 0).val, by omega⟩ (j 1)), ← hs, Y_at m c s r j]
    · show r0 + 512 * t + (j 0).val = _; rw [hr]
    · rfl
    · rw [g 0, e]; rfl
    · rw [g 1, e]; rfl
    · rw [g 2, e]; exact Nat.zero_add _
  · refine hset.le.trans fun i hi => ?_
    have hi := mem_box3.mp hi
    have h1 := hi.2.1.1; have h2 := hi.2.1.2
    change r0 + 512 * t ≤ _ at h1; change _ < r0 + 512 * t + 512 at h2
    exact mem_box3.mpr ⟨hi.1, ⟨by show r0 ≤ _; omega, by show _ < r0 + n; omega⟩, hi.2.2⟩
  · intro i hi
    have hi := mem_box3.mp hi
    have h1 := hi.2.1.1; have h2 := hi.2.1.2
    change r0 ≤ _ at h1; change _ < r0 + 512 * (t + 1) at h2
    by_cases h : (i 1).val < r0 + 512 * t
    · exact Or.inl (mem_box3.mpr ⟨hi.1, ⟨h1, h⟩, hi.2.2⟩)
    · refine Or.inr (hset.ge (mem_box3.mpr ⟨hi.1, ⟨?_, ?_⟩, hi.2.2⟩))
      · show r0 + 512 * t ≤ _; omega
      · show _ < r0 + 512 * t + 512; omega
  iintro H
  iapply (ret_step (F := F) c) $$ H

theorem outB_zero (r : ℕ) : outB r (512 * 0) = ∅ :=
  Finset.eq_empty_of_forall_notMem fun i hi => by
    have h1 := (mem_box2.mp hi).1.1; have h2 := (mem_box2.mp hi).1.2
    change r ≤ _ at h1; change _ < r + 512 * 0 at h2; omega

theorem resB_zero (slot r : ℕ) : (box ![slot, r, 0] ![1, 512 * 0, 1024] : Finset S3x2048x1024.Idx) = ∅ :=
  Finset.eq_empty_of_forall_notMem fun i hi => by
    have h1 := (mem_box3.mp hi).2.1.1; have h2 := (mem_box3.mp hi).2.1.2
    change r ≤ _ at h1; change _ < r + 512 * 0 at h2; omega

/-! ## Staging a slot -/

theorem stage_read (s : Dev nD) (inb) (t) (hq) :
    (((Memref.whole main_v1_1).slice (Rect.unit (s := S4x8192x1024) ![s.val, 0, 0] S1x8192x1024.size inb) t).squeeze S8192x1024 hq).view.read (Elt F) (G m) = Wb m s := by
  funext j
  have e := Shape.reshapeEquiv_cons_one hq.numel_eq j
  have g := ValueKit.rect_emb_unit_val (s := S4x8192x1024) ![s.val, 0, 0] S1x8192x1024.size inb (Shape.reshapeEquiv hq.numel_eq j)
  show G m ((Rect.unit (s := S4x8192x1024) ![s.val, 0, 0] S1x8192x1024.size inb).emb (Shape.reshapeEquiv hq.numel_eq j)) = Wb m s j
  unfold G
  have hc : (⟨((Rect.unit (s := S4x8192x1024) ![s.val, 0, 0] S1x8192x1024.size inb).emb (Shape.reshapeEquiv hq.numel_eq j) 0).val, Fin.isLt _⟩ : Dev nD) = s := by
    apply Fin.ext
    show ((Rect.unit (s := S4x8192x1024) ![s.val, 0, 0] S1x8192x1024.size inb).emb (Shape.reshapeEquiv hq.numel_eq j) 0).val = s.val
    rw [g 0, e]; rfl
  rw [hc]
  congr 1
  funext a
  apply Fin.ext
  match a with
  | ⟨0, _⟩ => exact (g 1).trans ((congrArg (fun t : S1x8192x1024.Idx => 0 + (t 1).val) e).trans (Nat.zero_add _))
  | ⟨1, _⟩ => exact (g 2).trans ((congrArg (fun t : S1x8192x1024.Idx => 0 + (t 2).val) e).trans (Nat.zero_add _))

theorem wg_disjoint (s : Dev nD) : Disjoint (wgB s 0) (wgB s 1) := by
  rw [Finset.disjoint_left]
  intro i h0 h1
  have h0 := (mem_box3.mp h0).2.1.2
  have h1 := (mem_box3.mp h1).2.1.1
  change _ < 4096 * 0 + 4096 at h0
  change 4096 * 1 ≤ _ at h1
  omega

theorem wg_union (s : Dev nD) : (box ![s.val, 0, 0] ![1, 8192, 1024] : Finset S4x8192x1024.Idx) = wgB s 0 ∪ wgB s 1 := by
  ext i
  rw [Finset.mem_union, mem_box3, mem_box3, mem_box3]
  show (_ ∧ ((0 ≤ (i 1).val ∧ (i 1).val < 0 + 8192)) ∧ _) ↔ (_ ∧ ((4096 * 0 ≤ (i 1).val ∧ (i 1).val < 4096 * 0 + 4096)) ∧ _)
    ∨ (_ ∧ ((4096 * 1 ≤ (i 1).val ∧ (i 1).val < 4096 * 1 + 4096)) ∧ _)
  constructor
  · rintro ⟨h0, h1, h2⟩
    by_cases h : (i 1).val < 4096
    · exact Or.inl ⟨h0, ⟨by omega, by omega⟩, h2⟩
    · exact Or.inr ⟨h0, ⟨by omega, by omega⟩, h2⟩
  · rintro (⟨h0, h1, h2⟩ | ⟨h0, h1, h2⟩) <;> exact ⟨h0, ⟨by omega, by omega⟩, h2⟩

/-- Both halves of slot `s` copied to the weights buffer. -/
theorem stage_step {Q : α → sProp 𝕄} (s : Dev nD) {o1 : Fin 3 → ℕ} (ho1 : o1 = ![s.val, 0, 0]) {q : PosShare TreeShare}
    {inb1 t1 q1 h₁ h₂ h₃ h₄ h₅} {kk : PUnit → Pg F α} :
    iprop(levAts L lv ∗ (at_ c main_v1_1 ↦[wgB s 0]{q} G m) ∗ (at_ c main_v1_1 ↦[wgB s 1]{q} G m) ∗ anyP (at_ c cc0_scratch5) Finset.univ
        ∗ semVal (kcell c (dS 24)) 0 ∗ owed c k)
      ⊢ iprop((((at_ c cc0_scratch5 ↦{fullShare} Wb m s) ∗ semVal (kcell c (dS 24)) 0 ∗ owed c k) -∗ WP c (kk ⟨⟩) Q)
        -∗ WP c (Prog.op (.enqueueDma (((Memref.whole main_v1_1).slice (Rect.unit (s := S4x8192x1024) o1 S1x8192x1024.size inb1) t1).squeeze S8192x1024 q1)
            (.here (Memref.whole cc0_scratch5)) (.dma cc0_scratch14.sem) h₁ h₂ h₃) fun _ =>
          Prog.op (.waitDma2 cc0_scratch14.sem (((Memref.whole main_v1_1).slice (Rect.unit (s := S4x8192x1024) o1 S1x8192x1024.size inb1) t1).squeeze S8192x1024 q1)
            (Memref.whole cc0_scratch5) h₄ h₅) kk) Q) := by
  subst ho1
  unfold anyP
  iintro ⟨#Hl, Ha, Hb, ⟨%f, H5⟩, Hs, HO⟩ Hk
  ihave Hg := (pointsTo_union (ℓ := at_ c main_v1_1) (wg_disjoint s)).2 $$ [Ha Hb]
  · isplitl [Ha]; · iexact Ha
    iexact Hb
  iapply (copy_step c k (n := 24) (h := by decide) rfl rfl h_S8192x1024
    ((set_squeeze_box main_v1_1 ![s.val, 0, 0] S1x8192x1024.size inb1 t1 S8192x1024 q1).le.trans (wg_union s).le) (Finset.subset_univ _)) $$ [Hg H5 Hs HO]
  · isplitr; · iexact Hl
    isplitl [Hg]; · iexact Hg
    isplitl [H5]; · iexact H5
    isplitl [Hs]; · iexact Hs
    iexact HO
  iintro ⟨-, H5, Hs, HO⟩
  iapply Hk
  isplitl [H5]
  · ihave H5 := (Entails.of_eq (pointsTo_congr (g := Wb m s) (fun i _ => congrFun ((View.write_whole_univ _ _ _).trans (stage_read m s inb1 t1 q1)) i))) $$ H5
    iexact H5
  isplitl [Hs]; · iexact Hs
  iexact HO

end Sends

end Cert.KProof

end
-- ==== Proof.Parts.lean ====
/-
The second half of the body, part by part: what each part needs and what it leaves.
-/
module

public import proofs.«01_k».proof.Proof.Sends

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Parts
variable {α : Type} (m : (ℓ : Loc nD τ sig) → Buf (Elt F) ℓ) (c : Dev nD)

/-! ## The parts at the buffers the kernel is called with -/

abbrev p9 (v2 v4 v6 a b : BitVec 32) : Pg F PUnit :=
  k0_part9 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v4 v6 a b
abbrev p10 (v2 v4 v6 : BitVec 32) : Pg F PUnit :=
  k0_part10 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v4 v6
abbrev p11 (v4 v6 : BitVec 32) : Pg F PUnit :=
  k0_part11 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v4 v6
abbrev p12 (v2 v4 v8 : BitVec 32) : Pg F PUnit :=
  k0_part12 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v4 v8
abbrev p13 (v4 v6 : BitVec 32) : Pg F PUnit :=
  k0_part13 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v4 v6
abbrev p14 (v2 v6 : BitVec 32) : Pg F PUnit :=
  k0_part14 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v6
abbrev p15 (v2 v4 v6 : BitVec 32) : Pg F PUnit :=
  k0_part15 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v4 v6
abbrev p16 (v2 v4 : BitVec 32) : Pg F PUnit :=
  k0_part16 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v4
abbrev p17 (v2 v4 : BitVec 32) : Pg F PUnit :=
  k0_part17 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v4
abbrev p18 (v2 v6 v8 : BitVec 32) : Pg F PUnit :=
  k0_part18 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 c v2 v6 v8

/-- DMA cell `n` of device `e` at zero. -/
abbrev semZ (e : Dev nD) (n : ℕ) (h : n < 25 := by decide) : sProp 𝕄 := semVal (kcell e (dS n h)) 0
/-- What a wait on DMA cell `n` needs: its credit and the place at its start. -/
def waitD (e : Dev nD) (n : ℕ) (h : n < 25 := by decide) : sProp 𝕄 := iprop(credD e n h ∗ posS e (dS n h))

theorem wait_at {Q : α → sProp 𝕄} (k : ℕ) (K : Dev nD × Fin 23 → ℕ) (n : ℕ) (h : n < 25) (h' : n < 22) {sm : DmaSem sig} (hsm : sm = (⟨n, h⟩ : Fin 25))
    {sp sp' : Space} {s s' : Shape} {e e' : EltTy} {src : Memref sig .tc sp s e} {dst : Memref sig .tc sp' s' e'} {h₁ h₂}
    {kk : PUnit → Pg F α} (hN : dst.view.dmaCredit = amt n) (hk : ∀ v ∈ debtLv.drop k, dmaLv n < v)
    {P : sProp 𝕄} (hP : dmaPay m c n = P) :
    iprop(Recs m K ∗ waitD c n h ∗ owed c k)
      ⊢ iprop(((P ∗ semZ c n h ∗ owed c k) -∗ WP c (kk ⟨⟩) Q)
        -∗ WP c (Prog.op (.waitDma2 sm src dst h₁ h₂) kk) Q) := by
  subst hP
  have H := wait_step m c k K n h h' hsm (src := src) (dst := dst) (h₁ := h₁) (h₂ := h₂) (kk := kk) (Q := Q) hN hk
  unfold waitD
  iintro ⟨HR, ⟨Hc, Hp⟩, HO⟩ Hk
  iapply H $$ [HR Hc Hp HO]
  · isplitl [HR]; · iexact HR
    isplitl [Hc]; · iexact Hc
    isplitl [Hp]; · iexact Hp
    iexact HO
  iexact Hk

/-- Half `h` of slot `s` at the right half share, kept for staging while the left half share travels. -/
def wgS (e s : Dev nD) (h : ℕ) : sProp 𝕄 := (at_ e main_v1_1) ↦[wgB s h]{fullShare.right} G m
def resAny (e : Dev nD) (slot r n : ℕ) : sProp 𝕄 := anyP (at_ e main_v1_3) (box ![slot, r, 0] ![1, n, 1024])
def resP (e : Dev nD) (slot r n : ℕ) : sProp 𝕄 := (at_ e main_v1_3) ↦[box ![slot, r, 0] ![1, n, 1024]]{fullShare} Res m e

theorem halve (e s : Dev nD) (h : ℕ) : wgP m e s h ⊢ iprop(((at_ e main_v1_1) ↦[wgB s h]{fullShare.left} G m) ∗ wgS m e s h) :=
  (pointsTo_share (PosShare.mem_left_op_right _)).1

/-- A received half travels on: half its share goes, the other half stays. -/
theorem forward_step {Q : α → sProp 𝕄} (k : ℕ) (K : Dev nD × Fin 23 → ℕ) {nd c' : Dev nD} (hnd : nd = c')
    (a b : ℕ) (ha : a < 12) (hb : b < 12) (ha' : a < 25) (hb' : b < 25) {sS sR : DmaSem sig} (hS : sS = (⟨a, ha'⟩ : Fin 25)) (hR : sR = (⟨b, hb'⟩ : Fin 25))
    (s : Dev nD) (hf : ℕ) {o1 o2 : Fin 3 → ℕ} (ho1 : o1 = ![s.val, 4096 * hf, 0]) (ho2 : o2 = ![s.val, 4096 * hf, 0])
    (hk : (debts c).drop k = kcell c' (dS b hb') :: (debts c).drop (k + 1))
    (hpa : dmaPay m c a = iprop(emp)) (hpb : dmaPay m c' b = wgP m c' s hf)
    {inb1 inb2 t1 t2 q1 q2 h₄ h₁ h₂ h₃} {kk : PUnit → Pg F α} :
    iprop(Recs m K ∗ wgP m c s hf ∗ wgAny c' s hf ∗ tokD c a ha' ∗ tokD c' b hb' ∗ owed c k)
      ⊢ iprop(((wgS m c s hf ∗ credD c a ha' ∗ owed c (k + 1)) -∗ WP c (kk ⟨⟩) Q)
        -∗ WP c (Prog.op (.enqueueDma (((Memref.whole main_v1_1).slice (Rect.unit (s := S4x8192x1024) o1 S1x4096x1024.size inb1) t1).squeeze S4096x1024 q1)
          (.remote (nd : Thread nD τ) (((Memref.whole main_v1_1).slice (Rect.unit (s := S4x8192x1024) o2 S1x4096x1024.size inb2) t2).squeeze S4096x1024 q2)
            (.dma sS) h₄) (.dma sR) h₁ h₂ h₃) kk) Q) := by
  have H := send_wg m c k K hnd a b ha hb ha' hb' hS hR s hf ho1 ho2 (q := fullShare.left) iprop(emp) hk hpa
    (by rw [hpb]; iintro ⟨H, -⟩; iexact H) (inb1 := inb1) (inb2 := inb2) (t1 := t1) (t2 := t2) (q1 := q1) (q2 := q2) (h₄ := h₄) (h₁ := h₁) (h₂ := h₂)
    (h₃ := h₃) (kk := kk) (Q := Q)
  iintro ⟨HR, Hg, Hd, Ha, Hb, HO⟩ Hk
  ihave ⟨Hl, Hr⟩ := (halve m c s hf) $$ Hg
  iapply H $$ [HR Hl Hd Ha Hb HO]
  · isplitl [HR]; · iexact HR
    isplitl [Hl]; · iexact Hl
    isplitl [Hd]; · iexact Hd
    isplitr; · iempintro
    isplitl [Ha]; · iexact Ha
    isplitl [Hb]; · iexact Hb
    iexact HO
  iintro ⟨Hc, HO⟩
  iapply Hk
  isplitl [Hr]; · iexact Hr
  isplitl [Hc]; · iexact Hc
  iexact HO

/-- The next slot's weights take the place of the last ones in the multiplying buffer. -/
theorem restage_step {Q : α → sProp 𝕄} (k : ℕ) (s₀ s : Dev nD) {o1 : Fin 3 → ℕ} (ho1 : o1 = ![s.val, 0, 0])
    {inb1 t1 q1 h₁ h₂ h₃ h₄ h₅} {kk : PUnit → Pg F α} :
    iprop(work m c s₀ ∗ wgS m c s 0 ∗ wgS m c s 1 ∗ semZ c 24 ∗ owed c k)
      ⊢ iprop(((work m c s ∗ semZ c 24 ∗ owed c k) -∗ WP c (kk ⟨⟩) Q)
        -∗ WP c (Prog.op (.enqueueDma (((Memref.whole main_v1_1).slice (Rect.unit (s := S4x8192x1024) o1 S1x8192x1024.size inb1) t1).squeeze S8192x1024 q1)
            (.here (Memref.whole cc0_scratch5)) (.dma cc0_scratch14.sem) h₁ h₂ h₃) fun _ =>
          Prog.op (.waitDma2 cc0_scratch14.sem (((Memref.whole main_v1_1).slice (Rect.unit (s := S4x8192x1024) o1 S1x8192x1024.size inb1) t1).squeeze S8192x1024 q1)
            (Memref.whole cc0_scratch5) h₄ h₅) kk) Q) := by
  have H := stage_step m c k s ho1 (q := fullShare.right) (inb1 := inb1) (t1 := t1) (q1 := q1) (h₁ := h₁) (h₂ := h₂) (h₃ := h₃) (h₄ := h₄) (h₅ := h₅)
    (kk := kk) (Q := Q)
  unfold work wgS
  iintro ⟨⟨#Hl, Hx, H6, H7, Hw, Hi, Ho⟩, Ha, Hb, Hs, HO⟩ Hk
  iapply H $$ [Ha Hb Hw Hs HO]
  · isplitr; · iexact Hl
    isplitl [Ha]; · iexact Ha
    isplitl [Hb]; · iexact Hb
    isplitl [Hw]; · iapply anyP_intro; iexact Hw
    isplitl [Hs]; · iexact Hs
    iexact HO
  iintro ⟨Hw, Hs, HO⟩
  iapply Hk
  isplitr [Hs HO]
  · isplitr; · iexact Hl
    isplitl [Hx]; · iexact Hx
    isplitl [H6]; · iexact H6
    isplitl [H7]; · iexact H7
    isplitl [Hw]; · iexact Hw
    isplitl [Hi]; · iexact Hi
    iexact Ho
  isplitl [Hs]; · iexact Hs
  iexact HO

theorem off9_prv : k0_off9 c 3#32 = ![(prv c).val, 4096 * 0, 0] := by revert c; decide +kernel
theorem off9_opp : k0_off9 c 2#32 = ![(opp c).val, 4096 * 0, 0] := by revert c; decide +kernel
theorem off10_nxt : k0_off10 c 1#32 = ![(nxt c).val, 4096 * 1, 0] := by revert c; decide +kernel
theorem off10_opp : k0_off10 c 2#32 = ![(opp c).val, 4096 * 1, 0] := by revert c; decide +kernel
theorem off11_nxt : k0_off11 c 1#32 = ![(nxt c).val, 0, 0] := by revert c; decide +kernel
theorem off11_opp : k0_off11 c 2#32 = ![(opp c).val, 0, 0] := by revert c; decide +kernel
theorem off11_prv : k0_off11 c 3#32 = ![(prv c).val, 0, 0] := by revert c; decide +kernel
theorem off14_own : k0_off14 c = ![2048 * c.val + 0, 0] := by revert c; decide +kernel
theorem off17_low : k0_off17 c 0#32 = ![2048 * c.val + 0, 0] := by revert c; decide +kernel
theorem off17_high : k0_off17 c 1024#32 = ![2048 * c.val + 1024, 0] := by revert c; decide +kernel

theorem part9_step {Q : α → sProp 𝕄} (K : Dev nD × Fin 23 → ℕ) (v2 v4 v6 a b : BitVec 32) {kk : PUnit → Pg F α} :
    iprop(Recs m K ∗ work m c c ∗ outAny c (2048 * c.val) 2048 ∗ waitD c 0 ∗ waitD c 3 ∗ waitD c 6 ∗ owed c 4)
      ⊢ iprop(((work m c c ∗ outP m c (2048 * c.val) 2048 ∗ wgP m c (prv c) 0 ∗ outAny (opp c) (2048 * c.val) 2048
          ∗ semZ c 0 ∗ semZ c 3 ∗ semZ c 6 ∗ owed c 4) -∗ WP c (kk ⟨⟩) Q)
        -∗ WP c (p9 c v2 v4 v6 a b >>= kk) Q) := by
  unfold p9
  rw [k0_part9_eq_skeleton]
  unfold k0_part9_skel
  simp only [Prog.lift, Prog.bind_op, Prog.bind_ret, Prog.bind_assoc, Prog.pure_eq_ret]
  iintro ⟨#HR, Hw, Ho, H0, H3, H6, HO⟩ Hk
  unfold outAny
  iapply (loop_step m c 4 c k0_t1_loop k0_t1_ok _ 4 rfl (ℓ := at_ c main_v1_0) (S := outB (2048 * c.val) 2048) (G' := Out m c)
    (fun t => outB (2048 * c.val) (512 * t)) (outB_zero _) (fun _ h => h) (fun t => ?_)) $$ [Hw Ho HO]
  · simp only [k0_t1_body, Prog.lift, Prog.bind_op, Prog.bind_ret, Prog.pure_eq_ret]
    exact out_trip m c 4 t.val (t.cast rfl) rfl (k0_off7_eq t) (k0_off8_eq c t) rfl
  · isplitl [Hw]; · iexact Hw
    isplitl [HO]; · iexact HO
    iexact Ho
  iintro ⟨Hw, HO, Ho⟩
  iapply (wait_at m c 4 K 0 (by decide) (by decide) rfl rfl (by decide) rfl) $$ [H0 HO]
  · isplitr; · iexact HR
    isplitl [H0]; · iexact H0
    iexact HO
  iintro ⟨-, Z0, HO⟩
  iapply (wait_at m c 4 K 3 (by decide) (by decide) rfl rfl (by decide) (P := iprop(wgP m c (prv c) 0 ∗ anyP (at_ (opp c) main_v1_0) (outB (2048 * c.val) 2048))) rfl) $$ [H3 HO]
  · isplitr; · iexact HR
    isplitl [H3]; · iexact H3
    iexact HO
  iintro ⟨⟨Hg, Hx⟩, Z3, HO⟩
  iapply (wait_at m c 4 K 6 (by decide) (by decide) rfl rfl (by decide) rfl) $$ [H6 HO]
  · isplitr; · iexact HR
    isplitl [H6]; · iexact H6
    iexact HO
  iintro ⟨-, Z6, HO⟩
  iapply Hk
  isplitl [Hw]; · iexact Hw
  isplitl [Ho]; · unfold outP; iexact Ho
  isplitl [Hg]; · iexact Hg
  isplitl [Hx]; · iexact Hx
  isplitl [Z0]; · iexact Z0
  isplitl [Z3]; · iexact Z3
  isplitl [Z6]; · iexact Z6
  iexact HO

theorem part10_step {Q : α → sProp 𝕄} (K : Dev nD × Fin 23 → ℕ) (v2 v4 v6 : BitVec 32) {kk : PUnit → Pg F α} :
    iprop(Recs m K ∗ waitD c 9 ∗ wgP m c (prv c) 0 ∗ wgAny (nxt c) (prv c) 0 ∗ tokD c 1 ∗ tokD (nxt c) 4 ∗ wgAny (prv c) (nxt c) 1
        ∗ tokD c 7 ∗ tokD (prv c) 10 ∗ owed c 4)
      ⊢ iprop(((semZ c 9 ∗ wgS m c (prv c) 0 ∗ wgS m c (nxt c) 1 ∗ credD c 1 ∗ credD c 7 ∗ owed c 6) -∗ WP c (kk ⟨⟩) Q)
        -∗ WP c (p10 c v2 v4 v6 >>= kk) Q) := by
  unfold p10
  rw [k0_part10_eq_skeleton]
  unfold k0_part10_skel
  simp only [Prog.lift, Prog.bind_op, Prog.bind_ret, Prog.bind_assoc, Prog.pure_eq_ret]
  iintro ⟨#HR, H9, Ha, Hda, Ta, Ta', Hdb, Tb, Tb', HO⟩ Hk
  iapply (wait_at m c 4 K 9 (by decide) (by decide) rfl rfl (by decide) (P := wgP m c (nxt c) 1) rfl) $$ [H9 HO]
  · isplitr; · iexact HR
    isplitl [H9]; · iexact H9
    iexact HO
  iintro ⟨Hb, Z9, HO⟩
  iapply (forward_step m c 4 K (show (⟨k0_dev5 c, k0_dev5_lt c⟩ : Dev nD) = nxt c from Fin.ext (k0_dev5_eq c)) 1 4
      (by decide) (by decide) (by decide) (by decide) rfl rfl (prv c) 0 (off9_prv c) (off9_prv c) rfl rfl
      (by show wgP m (nxt c) _ 0 = _; rw [opp_nxt])) $$ [Ha Hda Ta Ta' HO]
  · isplitr; · iexact HR
    isplitl [Ha]; · iexact Ha
    isplitl [Hda]; · iexact Hda
    isplitl [Ta]; · iexact Ta
    isplitl [Ta']; · iexact Ta'
    iexact HO
  iintro ⟨Ha, Ca, HO⟩
  iapply (forward_step m c 5 K (show (⟨k0_dev6 c, k0_dev6_lt c⟩ : Dev nD) = prv c from Fin.ext (k0_dev6_eq c)) 7 10
      (by decide) (by decide) (by decide) (by decide) rfl rfl (nxt c) 1 (off10_nxt c) (off10_nxt c) rfl rfl
      (by show wgP m (prv c) _ 1 = _; rw [opp_prv])) $$ [Hb Hdb Tb Tb' HO]
  · isplitr; · iexact HR
    isplitl [Hb]; · iexact Hb
    isplitl [Hdb]; · iexact Hdb
    isplitl [Tb]; · iexact Tb
    isplitl [Tb']; · iexact Tb'
    iexact HO
  iintro ⟨Hb, Cb, HO⟩
  iapply Hk
  isplitl [Z9]; · iexact Z9
  isplitl [Ha]; · iexact Ha
  isplitl [Hb]; · iexact Hb
  isplitl [Ca]; · iexact Ca
  isplitl [Cb]; · iexact Cb
  iexact HO

theorem part11_step {Q : α → sProp 𝕄} (K : Dev nD × Fin 23 → ℕ) (v4 v6 : BitVec 32) {kk : PUnit → Pg F α} :
    iprop(Recs m K ∗ waitD c 1 ∗ waitD c 4 ∗ waitD c 7 ∗ waitD c 10 ∗ owed c 6)
      ⊢ iprop(((semZ c 1 ∗ semZ c 4 ∗ semZ c 7 ∗ semZ c 10 ∗ wgP m c (opp c) 0 ∗ wgP m c (opp c) 1 ∗ owed c 6) -∗ WP c (kk ⟨⟩) Q)
        -∗ WP c (p11 c v4 v6 >>= kk) Q) := by
  unfold p11
  rw [k0_part11_eq_skeleton]
  unfold k0_part11_skel
  simp only [Prog.lift, Prog.bind_op, Prog.bind_ret, Prog.bind_assoc, Prog.pure_eq_ret]
  iintro ⟨#HR, H1, H4, H7, H10, HO⟩ Hk
  iapply (wait_at m c 6 K 1 (by decide) (by decide) rfl rfl (by decide) rfl) $$ [H1 HO]
  · isplitr; · iexact HR
    isplitl [H1]; · iexact H1
    iexact HO
  iintro ⟨-, Z1, HO⟩
  iapply (wait_at m c 6 K 4 (by decide) (by decide) rfl rfl (by decide) (P := wgP m c (opp c) 0) rfl) $$ [H4 HO]
  · isplitr; · iexact HR
    isplitl [H4]; · iexact H4
    iexact HO
  iintro ⟨Ha, Z4, HO⟩
  iapply (wait_at m c 6 K 7 (by decide) (by decide) rfl rfl (by decide) rfl) $$ [H7 HO]
  · isplitr; · iexact HR
    isplitl [H7]; · iexact H7
    iexact HO
  iintro ⟨-, Z7, HO⟩
  iapply (wait_at m c 6 K 10 (by decide) (by decide) rfl rfl (by decide) (P := wgP m c (opp c) 1) rfl) $$ [H10 HO]
  · isplitr; · iexact HR
    isplitl [H10]; · iexact H10
    iexact HO
  iintro ⟨Hb, Z10, HO⟩
  iapply Hk
  isplitl [Z1]; · iexact Z1
  isplitl [Z4]; · iexact Z4
  isplitl [Z7]; · iexact Z7
  isplitl [Z10]; · iexact Z10
  isplitl [Ha]; · iexact Ha
  isplitl [Hb]; · iexact Hb
  iexact HO

theorem part12_step {Q : α → sProp 𝕄} (K : Dev nD × Fin 23 → ℕ) (v2 v4 v8 : BitVec 32) {kk : PUnit → Pg F α} :
    iprop(Recs m K ∗ work m c c ∗ wgP m c (opp c) 0 ∗ wgAny (nxt c) (opp c) 0 ∗ tokD c 2 ∗ tokD (nxt c) 5
        ∗ wgP m c (opp c) 1 ∗ wgAny (prv c) (opp c) 1 ∗ tokD c 8 ∗ tokD (prv c) 11 ∗ semZ c 24 ∗ resAny c 1 0 2048 ∗ owed c 6)
      ⊢ iprop(((work m c (opp c) ∗ credD c 2 ∗ credD c 8 ∗ semZ c 24 ∗ resP m c 1 0 2048 ∗ owed c 8) -∗ WP c (kk ⟨⟩) Q)
        -∗ WP c (p12 c v2 v4 v8 >>= kk) Q) := by
  unfold p12
  rw [k0_part12_eq_skeleton]
  unfold k0_part12_skel
  simp only [Prog.lift, Prog.bind_op, Prog.bind_ret, Prog.bind_assoc, Prog.pure_eq_ret]
  iintro ⟨#HR, Hw, Ha, Hda, Ta, Ta', Hb, Hdb, Tb, Tb', Z24, Hr, HO⟩ Hk
  iapply (forward_step m c 6 K (show (⟨k0_dev7 c, k0_dev7_lt c⟩ : Dev nD) = nxt c from Fin.ext (k0_dev7_eq c)) 2 5
      (by decide) (by decide) (by decide) (by decide) rfl rfl (opp c) 0 (off9_opp c) (off9_opp c) rfl rfl
      (by show wgP m (nxt c) _ 0 = _; rw [nxt_nxt])) $$ [Ha Hda Ta Ta' HO]
  · isplitr; · iexact HR
    isplitl [Ha]; · iexact Ha
    isplitl [Hda]; · iexact Hda
    isplitl [Ta]; · iexact Ta
    isplitl [Ta']; · iexact Ta'
    iexact HO
  iintro ⟨Ha, Ca, HO⟩
  iapply (forward_step m c 7 K (show (⟨k0_dev8 c, k0_dev8_lt c⟩ : Dev nD) = prv c from Fin.ext (k0_dev8_eq c)) 8 11
      (by decide) (by decide) (by decide) (by decide) rfl rfl (opp c) 1 (off10_opp c) (off10_opp c) rfl rfl
      (by show wgP m (prv c) _ 1 = _; rw [prv_prv])) $$ [Hb Hdb Tb Tb' HO]
  · isplitr; · iexact HR
    isplitl [Hb]; · iexact Hb
    isplitl [Hdb]; · iexact Hdb
    isplitl [Tb]; · iexact Tb
    isplitl [Tb']; · iexact Tb'
    iexact HO
  iintro ⟨Hb, Cb, HO⟩
  iapply (restage_step m c 8 (c) (opp c) (off11_opp c)) $$ [Hw Ha Hb Z24 HO]
  · isplitl [Hw]; · iexact Hw
    isplitl [Ha]; · iexact Ha
    isplitl [Hb]; · iexact Hb
    isplitl [Z24]; · iexact Z24
    iexact HO
  iintro ⟨Hw, Z24, HO⟩
  unfold resAny resP
  iapply (loop_step m c 8 (opp c) k0_t2_loop k0_t2_ok _ 4 rfl (ℓ := at_ c main_v1_3) (S := box ![1, 0, 0] ![1, 2048, 1024]) (G' := Res m c)
    (fun t => box ![1, 0, 0] ![1, 512 * t, 1024]) (resB_zero _ _) (fun _ h => h) (fun t => ?_)) $$ [Hw Hr HO]
  · simp only [k0_t2_body, Prog.lift, Prog.bind_op, Prog.bind_ret, Prog.pure_eq_ret]
    exact res_trip m c 8 1 0 2048 (opp c) rfl t.val (t.castLE (by decide)) (by show 512 * t.val = 0 + 512 * t.val; omega)
      (by have h : t.val < 4 := t.isLt; omega) (k0_off12_eq t) ((k0_off13_eq t).trans (by rw [Nat.zero_add])) rfl
  · isplitl [Hw]; · iexact Hw
    isplitl [HO]; · iexact HO
    iexact Hr
  iintro ⟨Hw, HO, Hr⟩
  iapply Hk
  isplitl [Hw]; · iexact Hw
  isplitl [Ca]; · iexact Ca
  isplitl [Cb]; · iexact Cb
  isplitl [Z24]; · iexact Z24
  isplitl [Hr]; · iexact Hr
  iexact HO

theorem part13_step {Q : α → sProp 𝕄} (K : Dev nD × Fin 23 → ℕ) (v4 v6 : BitVec 32) {kk : PUnit → Pg F α} :
    iprop(Recs m K ∗ resP m c 1 0 2048 ∗ outAny (opp c) (2048 * c.val + 0) 2048 ∗ tokD c 14 ∗ tokD (opp c) 19
        ∗ waitD c 2 ∗ waitD c 5 ∗ waitD c 8 ∗ owed c 8)
      ⊢ iprop(((credD c 14 ∗ semZ c 2 ∗ semZ c 5 ∗ semZ c 8 ∗ wgP m c (nxt c) 0 ∗ owed c 9) -∗ WP c (kk ⟨⟩) Q)
        -∗ WP c (p13 c v4 v6 >>= kk) Q) := by
  unfold p13
  rw [k0_part13_eq_skeleton]
  unfold k0_part13_skel
  simp only [Prog.lift, Prog.bind_op, Prog.bind_ret, Prog.bind_assoc, Prog.pure_eq_ret]
  unfold resP
  iintro ⟨#HR, Hr, Hd, T, T', H2, H5, H8, HO⟩ Hk
  iapply (send_out m c 8 K (show (⟨k0_dev9 c, k0_dev9_lt c⟩ : Dev nD) = opp c from Fin.ext (k0_dev9_eq c)) 2048 0 1 rfl 14 19
      (by decide) (by decide) (by decide) (by decide) rfl rfl rfl (off14_own c) rfl rfl rfl rfl
      (by show _ ⊢ outP m (opp c) _ 2048; rw [opp_opp]; exact .rfl)) $$ [Hr Hd T T' HO]
  · isplitr; · iexact HR
    isplitl [Hr]; · iexact Hr
    isplitl [Hd]; · iexact Hd
    isplitl [T]; · iexact T
    isplitl [T']; · iexact T'
    iexact HO
  iintro ⟨C, HO⟩
  iapply (wait_at m c 9 K 2 (by decide) (by decide) rfl rfl (by decide) rfl) $$ [H2 HO]
  · isplitr; · iexact HR
    isplitl [H2]; · iexact H2
    iexact HO
  iintro ⟨-, Z2, HO⟩
  iapply (wait_at m c 9 K 5 (by decide) (by decide) rfl rfl (by decide) (P := wgP m c (nxt c) 0) rfl) $$ [H5 HO]
  · isplitr; · iexact HR
    isplitl [H5]; · iexact H5
    iexact HO
  iintro ⟨Ha, Z5, HO⟩
  iapply (wait_at m c 9 K 8 (by decide) (by decide) rfl rfl (by decide) rfl) $$ [H8 HO]
  · isplitr; · iexact HR
    isplitl [H8]; · iexact H8
    iexact HO
  iintro ⟨-, Z8, HO⟩
  iapply Hk
  isplitl [C]; · iexact C
  isplitl [Z2]; · iexact Z2
  isplitl [Z5]; · iexact Z5
  isplitl [Z8]; · iexact Z8
  isplitl [Ha]; · iexact Ha
  iexact HO

theorem part14_step {Q : α → sProp 𝕄} (K : Dev nD × Fin 23 → ℕ) (v2 v6 : BitVec 32) {kk : PUnit → Pg F α} :
    iprop(Recs m K ∗ work m c (opp c) ∗ waitD c 11 ∗ wgP m c (nxt c) 0 ∗ wgS m c (nxt c) 1 ∗ semZ c 24 ∗ resAny c 0 0 1024 ∗ resAny c 0 1024 1024
        ∗ outAny (nxt c) (2048 * c.val + 0) 1024 ∗ tokD c 12 ∗ tokD (nxt c) 17 ∗ owed c 9)
      ⊢ iprop(((work m c (nxt c) ∗ semZ c 11 ∗ wgP m c (prv c) 1 ∗ semZ c 24 ∗ resP m c 0 1024 1024 ∗ credD c 12 ∗ owed c 10) -∗ WP c (kk ⟨⟩) Q)
        -∗ WP c (p14 c v2 v6 >>= kk) Q) := by
  unfold p14
  rw [k0_part14_eq_skeleton]
  unfold k0_part14_skel
  simp only [Prog.lift, Prog.bind_op, Prog.bind_ret, Prog.bind_assoc, Prog.pure_eq_ret]
  iintro ⟨#HR, Hw, H11, Ha, Hb, Z24, Hr, Hr', Hd, T, T', HO⟩ Hk
  iapply (wait_at m c 9 K 11 (by decide) (by decide) rfl rfl (by decide) (P := wgP m c (prv c) 1) rfl) $$ [H11 HO]
  · isplitr; · iexact HR
    isplitl [H11]; · iexact H11
    iexact HO
  iintro ⟨Hg, Z11, HO⟩
  ihave ⟨-, Ha⟩ := (halve m c (nxt c) 0) $$ Ha
  iapply (restage_step m c 9 (opp c) (nxt c) (off11_nxt c)) $$ [Hw Ha Hb Z24 HO]
  · isplitl [Hw]; · iexact Hw
    isplitl [Ha]; · iexact Ha
    isplitl [Hb]; · iexact Hb
    isplitl [Z24]; · iexact Z24
    iexact HO
  iintro ⟨Hw, Z24, HO⟩
  unfold resAny resP
  iapply (loop_step m c 9 (nxt c) k0_t3_loop k0_t3_ok _ 2 rfl (ℓ := at_ c main_v1_3) (S := box ![0, 0, 0] ![1, 1024, 1024]) (G' := Res m c)
    (fun t => box ![0, 0, 0] ![1, 512 * t, 1024]) (resB_zero _ _) (fun _ h => h) (fun t => ?_)) $$ [Hw Hr HO]
  · simp only [k0_t3_body, Prog.lift, Prog.bind_op, Prog.bind_ret, Prog.pure_eq_ret]
    exact res_trip m c 9 0 0 1024 (nxt c) rfl t.val (t.castLE (by decide)) (by show 512 * t.val = 0 + 512 * t.val; omega)
      (by have h : t.val < 2 := t.isLt; omega) (k0_off15_eq t) ((k0_off16_eq t).trans (by rw [Nat.zero_add])) rfl
  · isplitl [Hw]; · iexact Hw
    isplitl [HO]; · iexact HO
    iexact Hr
  iintro ⟨Hw, HO, Hr⟩
  iapply (send_out m c 9 K (show (⟨k0_dev10 c, k0_dev10_lt c⟩ : Dev nD) = nxt c from Fin.ext (k0_dev10_eq c)) 1024 0 0 rfl 12 17
      (by decide) (by decide) (by decide) (by decide) rfl rfl rfl (off17_low c) rfl rfl rfl rfl
      (by show _ ⊢ outP m (nxt c) _ 1024; rw [prv_nxt]; exact .rfl)) $$ [Hr Hd T T' HO]
  · isplitr; · iexact HR
    isplitl [Hr]; · iexact Hr
    isplitl [Hd]; · iexact Hd
    isplitl [T]; · iexact T
    isplitl [T']; · iexact T'
    iexact HO
  iintro ⟨C, HO⟩
  iapply (loop_step m c 10 (nxt c) k0_t4_loop k0_t4_ok _ 2 rfl (ℓ := at_ c main_v1_3) (S := box ![0, 1024, 0] ![1, 1024, 1024]) (G' := Res m c)
    (fun t => box ![0, 1024, 0] ![1, 512 * t, 1024]) (resB_zero _ _) (fun _ h => h) (fun t => ?_)) $$ [Hw Hr' HO]
  · simp only [k0_t4_body, Prog.lift, Prog.bind_op, Prog.bind_ret, Prog.pure_eq_ret]
    exact res_trip m c 10 0 1024 1024 (nxt c) rfl t.val ⟨t.val + 2, by have h : t.val < 2 := t.isLt; omega⟩ (by show 512 * (t.val + 2) = 1024 + 512 * t.val; omega)
      (by have h : t.val < 2 := t.isLt; omega) ((k0_off18_eq t).trans (by rw [show 512 * t.val + 1024 = 512 * (t.val + 2) by omega])) ((k0_off19_eq t).trans (by rw [Nat.add_comm])) rfl
  · isplitl [Hw]; · iexact Hw
    isplitl [HO]; · iexact HO
    iexact Hr'
  iintro ⟨Hw, HO, Hr'⟩
  iapply Hk
  isplitl [Hw]; · iexact Hw
  isplitl [Z11]; · iexact Z11
  isplitl [Hg]; · iexact Hg
  isplitl [Z24]; · iexact Z24
  isplitl [Hr']; · iexact Hr'
  isplitl [C]; · iexact C
  iexact HO

theorem part15_step {Q : α → sProp 𝕄} (K : Dev nD × Fin 23 → ℕ) (v2 v4 v6 : BitVec 32) {kk : PUnit → Pg F α} :
    iprop(Recs m K ∗ work m c (nxt c) ∗ resP m c 0 1024 1024 ∗ outAny (nxt c) (2048 * c.val + 1024) 1024 ∗ tokD c 13 ∗ tokD (nxt c) 18
        ∗ wgS m c (prv c) 0 ∗ wgP m c (prv c) 1 ∗ semZ c 24 ∗ resAny c 2 0 1024 ∗ resAny c 2 1024 1024
        ∗ outAny (prv c) (2048 * c.val + 0) 1024 ∗ tokD c 15 ∗ tokD (prv c) 20 ∗ owed c 10)
      ⊢ iprop(((work m c (prv c) ∗ semZ c 24 ∗ resP m c 2 1024 1024 ∗ credD c 13 ∗ credD c 15 ∗ owed c 12) -∗ WP c (kk ⟨⟩) Q)
        -∗ WP c (p15 c v2 v4 v6 >>= kk) Q) := by
  unfold p15
  rw [k0_part15_eq_skeleton]
  unfold k0_part15_skel
  simp only [Prog.lift, Prog.bind_op, Prog.bind_ret, Prog.bind_assoc, Prog.pure_eq_ret]
  unfold resAny resP
  iintro ⟨#HR, Hw, Hs, Hd, T, T', Ha, Hb, Z24, Hr, Hr', Hd', U, U', HO⟩ Hk
  iapply (send_out m c 10 K (show (⟨k0_dev11 c, k0_dev11_lt c⟩ : Dev nD) = nxt c from Fin.ext (k0_dev11_eq c)) 1024 1024 0 rfl 13 18
      (by decide) (by decide) (by decide) (by decide) rfl rfl rfl (off17_high c) rfl rfl rfl rfl
      (by show _ ⊢ outP m (nxt c) _ 1024; rw [prv_nxt])) $$ [Hs Hd T T' HO]
  · isplitr; · iexact HR
    isplitl [Hs]; · iexact Hs
    isplitl [Hd]; · iexact Hd
    isplitl [T]; · iexact T
    isplitl [T']; · iexact T'
    iexact HO
  iintro ⟨C, HO⟩
  ihave ⟨-, Hb⟩ := (halve m c (prv c) 1) $$ Hb
  iapply (restage_step m c 11 (nxt c) (prv c) (off11_prv c)) $$ [Hw Ha Hb Z24 HO]
  · isplitl [Hw]; · iexact Hw
    isplitl [Ha]; · iexact Ha
    isplitl [Hb]; · iexact Hb
    isplitl [Z24]; · iexact Z24
    iexact HO
  iintro ⟨Hw, Z24, HO⟩
  iapply (loop_step m c 11 (prv c) k0_t5_loop k0_t5_ok _ 2 rfl (ℓ := at_ c main_v1_3) (S := box ![2, 0, 0] ![1, 1024, 1024]) (G' := Res m c)
    (fun t => box ![2, 0, 0] ![1, 512 * t, 1024]) (resB_zero _ _) (fun _ h => h) (fun t => ?_)) $$ [Hw Hr HO]
  · simp only [k0_t5_body, Prog.lift, Prog.bind_op, Prog.bind_ret, Prog.pure_eq_ret]
    exact res_trip m c 11 2 0 1024 (prv c) rfl t.val (t.castLE (by decide)) (by show 512 * t.val = 0 + 512 * t.val; omega)
      (by have h : t.val < 2 := t.isLt; omega) (k0_off20_eq t) ((k0_off21_eq t).trans (by rw [Nat.zero_add])) rfl
  · isplitl [Hw]; · iexact Hw
    isplitl [HO]; · iexact HO
    iexact Hr
  iintro ⟨Hw, HO, Hr⟩
  iapply (send_out m c 11 K (show (⟨k0_dev12 c, k0_dev12_lt c⟩ : Dev nD) = prv c from Fin.ext (k0_dev12_eq c)) 1024 0 2 rfl 15 20
      (by decide) (by decide) (by decide) (by decide) rfl rfl rfl (off17_low c) rfl rfl rfl rfl
      (by show _ ⊢ outP m (prv c) _ 1024; rw [nxt_prv]; exact .rfl)) $$ [Hr Hd' U U' HO]
  · isplitr; · iexact HR
    isplitl [Hr]; · iexact Hr
    isplitl [Hd']; · iexact Hd'
    isplitl [U]; · iexact U
    isplitl [U']; · iexact U'
    iexact HO
  iintro ⟨C', HO⟩
  iapply (loop_step m c 12 (prv c) k0_t6_loop k0_t6_ok _ 2 rfl (ℓ := at_ c main_v1_3) (S := box ![2, 1024, 0] ![1, 1024, 1024]) (G' := Res m c)
    (fun t => box ![2, 1024, 0] ![1, 512 * t, 1024]) (resB_zero _ _) (fun _ h => h) (fun t => ?_)) $$ [Hw Hr' HO]
  · simp only [k0_t6_body, Prog.lift, Prog.bind_op, Prog.bind_ret, Prog.pure_eq_ret]
    exact res_trip m c 12 2 1024 1024 (prv c) rfl t.val ⟨t.val + 2, by have h : t.val < 2 := t.isLt; omega⟩ (by show 512 * (t.val + 2) = 1024 + 512 * t.val; omega)
      (by have h : t.val < 2 := t.isLt; omega) ((k0_off22_eq t).trans (by rw [show 512 * t.val + 1024 = 512 * (t.val + 2) by omega])) ((k0_off23_eq t).trans (by rw [Nat.add_comm])) rfl
  · isplitl [Hw]; · iexact Hw
    isplitl [HO]; · iexact HO
    iexact Hr'
  iintro ⟨Hw, HO, Hr'⟩
  iapply Hk
  isplitl [Hw]; · iexact Hw
  isplitl [Z24]; · iexact Z24
  isplitl [Hr']; · iexact Hr'
  isplitl [C]; · iexact C
  isplitl [C']; · iexact C'
  iexact HO

theorem part16_step {Q : α → sProp 𝕄} (K : Dev nD × Fin 23 → ℕ) (v2 v4 : BitVec 32) {kk : PUnit → Pg F α} :
    iprop(Recs m K ∗ resP m c 2 1024 1024 ∗ outAny (prv c) (2048 * c.val + 1024) 1024 ∗ tokD c 16 ∗ tokD (prv c) 21 ∗ waitD c 12 ∗ waitD c 13 ∗ owed c 12)
      ⊢ iprop(((credD c 16 ∗ semZ c 12 ∗ semZ c 13 ∗ owed c 13) -∗ WP c (kk ⟨⟩) Q)
        -∗ WP c (p16 c v2 v4 >>= kk) Q) := by
  unfold p16
  rw [k0_part16_eq_skeleton]
  unfold k0_part16_skel
  simp only [Prog.lift, Prog.bind_op, Prog.bind_ret, Prog.bind_assoc, Prog.pure_eq_ret]
  unfold resP
  iintro ⟨#HR, Hr, Hd, T, T', H12, H13, HO⟩ Hk
  iapply (send_out m c 12 K (show (⟨k0_dev13 c, k0_dev13_lt c⟩ : Dev nD) = prv c from Fin.ext (k0_dev13_eq c)) 1024 1024 2 rfl 16 21
      (by decide) (by decide) (by decide) (by decide) rfl rfl rfl (off17_high c) rfl rfl rfl rfl
      (by show _ ⊢ outP m (prv c) _ 1024; rw [nxt_prv])) $$ [Hr Hd T T' HO]
  · isplitr; · iexact HR
    isplitl [Hr]; · iexact Hr
    isplitl [Hd]; · iexact Hd
    isplitl [T]; · iexact T
    isplitl [T']; · iexact T'
    iexact HO
  iintro ⟨C, HO⟩
  iapply (wait_at m c 13 K 12 (by decide) (by decide) rfl rfl (by decide) rfl) $$ [H12 HO]
  · isplitr; · iexact HR
    isplitl [H12]; · iexact H12
    iexact HO
  iintro ⟨-, Z12, HO⟩
  iapply (wait_at m c 13 K 13 (by decide) (by decide) rfl rfl (by decide) rfl) $$ [H13 HO]
  · isplitr; · iexact HR
    isplitl [H13]; · iexact H13
    iexact HO
  iintro ⟨-, Z13, HO⟩
  iapply Hk
  isplitl [C]; · iexact C
  isplitl [Z12]; · iexact Z12
  isplitl [Z13]; · iexact Z13
  iexact HO

theorem part17_step {Q : α → sProp 𝕄} (K : Dev nD × Fin 23 → ℕ) (v2 v4 : BitVec 32) {kk : PUnit → Pg F α} :
    iprop(Recs m K ∗ waitD c 14 ∗ waitD c 15 ∗ waitD c 16 ∗ waitD c 17 ∗ owed c 13)
      ⊢ iprop(((semZ c 14 ∗ semZ c 15 ∗ semZ c 16 ∗ semZ c 17 ∗ outP m c (2048 * (prv c).val) 1024 ∗ owed c 13) -∗ WP c (kk ⟨⟩) Q)
        -∗ WP c (p17 c v2 v4 >>= kk) Q) := by
  unfold p17
  rw [k0_part17_eq_skeleton]
  unfold k0_part17_skel
  simp only [Prog.lift, Prog.bind_op, Prog.bind_ret, Prog.bind_assoc, Prog.pure_eq_ret]
  iintro ⟨#HR, H14, H15, H16, H17, HO⟩ Hk
  iapply (wait_at m c 13 K 14 (by decide) (by decide) rfl rfl (by decide) rfl) $$ [H14 HO]
  · isplitr; · iexact HR
    isplitl [H14]; · iexact H14
    iexact HO
  iintro ⟨-, Z14, HO⟩
  iapply (wait_at m c 13 K 15 (by decide) (by decide) rfl rfl (by decide) rfl) $$ [H15 HO]
  · isplitr; · iexact HR
    isplitl [H15]; · iexact H15
    iexact HO
  iintro ⟨-, Z15, HO⟩
  iapply (wait_at m c 13 K 16 (by decide) (by decide) rfl rfl (by decide) rfl) $$ [H16 HO]
  · isplitr; · iexact HR
    isplitl [H16]; · iexact H16
    iexact HO
  iintro ⟨-, Z16, HO⟩
  iapply (wait_at m c 13 K 17 (by decide) (by decide) rfl rfl (by decide) (P := outP m c (2048 * (prv c).val) 1024) rfl) $$ [H17 HO]
  · isplitr; · iexact HR
    isplitl [H17]; · iexact H17
    iexact HO
  iintro ⟨Ho, Z17, HO⟩
  iapply Hk
  isplitl [Z14]; · iexact Z14
  isplitl [Z15]; · iexact Z15
  isplitl [Z16]; · iexact Z16
  isplitl [Z17]; · iexact Z17
  isplitl [Ho]; · iexact Ho
  iexact HO

theorem part18_step {Q : α → sProp 𝕄} (K : Dev nD × Fin 23 → ℕ) (v2 v6 v8 : BitVec 32) {kk : PUnit → Pg F α} :
    iprop(Recs m K ∗ waitD c 18 ∗ waitD c 19 ∗ waitD c 20 ∗ owed c 13)
      ⊢ iprop(((semZ c 18 ∗ semZ c 19 ∗ semZ c 20 ∗ outP m c (2048 * (prv c).val + 1024) 1024 ∗ outP m c (2048 * (opp c).val) 2048
          ∗ outP m c (2048 * (nxt c).val) 1024 ∗ owed c 13) -∗ WP c (kk ⟨⟩) Q)
        -∗ WP c (p18 c v2 v6 v8 >>= kk) Q) := by
  unfold p18
  rw [k0_part18_eq_skeleton]
  unfold k0_part18_skel
  simp only [Prog.lift, Prog.bind_op, Prog.bind_ret, Prog.bind_assoc, Prog.pure_eq_ret]
  iintro ⟨#HR, H18, H19, H20, HO⟩ Hk
  iapply (wait_at m c 13 K 18 (by decide) (by decide) rfl rfl (by decide) (P := outP m c (2048 * (prv c).val + 1024) 1024) rfl) $$ [H18 HO]
  · isplitr; · iexact HR
    isplitl [H18]; · iexact H18
    iexact HO
  iintro ⟨Ha, Z18, HO⟩
  iapply (wait_at m c 13 K 19 (by decide) (by decide) rfl rfl (by decide) (P := outP m c (2048 * (opp c).val) 2048) rfl) $$ [H19 HO]
  · isplitr; · iexact HR
    isplitl [H19]; · iexact H19
    iexact HO
  iintro ⟨Hb, Z19, HO⟩
  iapply (wait_at m c 13 K 20 (by decide) (by decide) rfl rfl (by decide) (P := outP m c (2048 * (nxt c).val) 1024) rfl) $$ [H20 HO]
  · isplitr; · iexact HR
    isplitl [H20]; · iexact H20
    iexact HO
  iintro ⟨Hc, Z20, HO⟩
  iapply Hk
  isplitl [Z18]; · iexact Z18
  isplitl [Z19]; · iexact Z19
  isplitl [Z20]; · iexact Z20
  isplitl [Ha]; · iexact Ha
  isplitl [Hb]; · iexact Hb
  isplitl [Hc]; · iexact Hc
  iexact HO

end Parts

end Cert.KProof

end
-- ==== Proof.Cuts.lean ====
/-
Buffers cut into the pieces the devices trade, and the pieces put
together again.
-/
module

public import proofs.«01_k».proof.Proof.Parts

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Cutting and joining -/

section Cut

/-- Two boxes apart along some axis. -/
def apart {r : ℕ} (p q : (Fin r → ℕ) × (Fin r → ℕ)) : Prop := ∃ a, p.1 a + p.2 a ≤ q.1 a ∨ q.1 a + q.2 a ≤ p.1 a

instance {r : ℕ} : DecidableRel (apart (r := r)) := fun p q => by unfold apart; infer_instance

theorem apart_disjoint {s : Shape} {p q : (Fin s.rank → ℕ) × (Fin s.rank → ℕ)} (h : apart p q) :
    Disjoint (box p.1 p.2 : Finset s.Idx) (box q.1 q.2) := by
  obtain ⟨a, h⟩ := h
  refine Finset.disjoint_left.mpr fun i hp hq => ?_
  have h1 := mem_box.mp hp a
  have h2 := mem_box.mp hq a
  omega

variable {ℓ : Loc nD τ sig}

/-- Pieces of a buffer, each held whole at some contents. -/
def pieces (ℓ : Loc nD τ sig) : List (Finset (Idx ℓ)) → sProp 𝕄
  | [] => iprop(emp)
  | D :: l => iprop(anyP ℓ D ∗ pieces ℓ l)

/-- Pieces of a buffer held whole at the contents `f`. -/
def held (ℓ : Loc nD τ sig) (f : Buf (Elt F) ℓ) : List (Finset (Idx ℓ)) → sProp 𝕄
  | [] => iprop(emp)
  | D :: l => iprop((ℓ ↦[D]{fullShare} f) ∗ held ℓ f l)

omit [FloatOps F] in
theorem cut : ∀ (l : List (Finset (Idx ℓ))) (S : Finset (Idx ℓ)), (∀ D ∈ l, D ⊆ S) → l.Pairwise Disjoint → anyP (F := F) ℓ S ⊢ pieces ℓ l
  | [], _, _, _ => to_emp _
  | D :: l, S, hS, hl => by
    have hp := List.pairwise_cons.mp hl
    have ih := cut l (S \ D) (fun D' h' i hi => Finset.mem_sdiff.mpr ⟨hS D' (List.mem_cons_of_mem _ h') hi,
      fun hd => Finset.disjoint_left.mp (hp.1 D' h') hd hi⟩) hp.2
    unfold pieces
    iintro H
    ihave ⟨H, H'⟩ := (anyP_split (hS D List.mem_cons_self)) $$ H
    isplitl [H]; · iexact H
    iapply ih; iexact H'

omit [FloatOps F] in
theorem join {f : Buf (Elt F) ℓ} : ∀ (l : List (Finset (Idx ℓ))), l.Pairwise Disjoint →
    held ℓ f l ⊢ (ℓ ↦[l.foldr (· ∪ ·) ∅]{fullShare} f : sProp 𝕄)
  | [], _ => by
    unfold held
    exact Entails.of_eq (pointsTo_empty (ℓ := ℓ)).symm
  | D :: l, hl => by
    have hp := List.pairwise_cons.mp hl
    have ih := join (f := f) l hp.2
    have hd : Disjoint D (l.foldr (· ∪ ·) ∅) := by
      have H : ∀ l' : List (Finset (Idx ℓ)), (∀ D' ∈ l', Disjoint D D') → Disjoint D (l'.foldr (· ∪ ·) ∅) := by
        intro l'
        induction l' with
        | nil => intro _; exact Finset.disjoint_empty_right _
        | cons a t iht => intro h; exact Finset.disjoint_union_right.mpr ⟨h a List.mem_cons_self, iht fun x hx => h x (List.mem_cons_of_mem _ hx)⟩
      exact H l hp.1
    unfold held
    iintro ⟨H, H'⟩
    ihave H' := ih $$ H'
    iapply (pointsTo_union (ℓ := ℓ) hd).2
    isplitl [H]; · iexact H
    iexact H'

theorem mem_union_of {X : Type} [DecidableEq X] {i : X} : ∀ {l : List (Finset X)}, (∃ D ∈ l, i ∈ D) → i ∈ l.foldr (· ∪ ·) ∅
  | [], h => by obtain ⟨D, h, -⟩ := h; simp at h
  | a :: l, h => by
    obtain ⟨D, h, hi⟩ := h
    rcases List.mem_cons.mp h with rfl | h
    · exact Finset.mem_union_left _ hi
    · exact Finset.mem_union_right _ (mem_union_of ⟨D, h, hi⟩)

omit [FloatOps F] in
theorem join_all {f : Buf (Elt F) ℓ} (l : List (Finset (Idx ℓ))) (U : Finset (Idx ℓ)) (h : l.Pairwise Disjoint) (hU : ∀ i ∈ U, ∃ D ∈ l, i ∈ D) :
    held ℓ f l ⊢ (ℓ ↦[U]{fullShare} f : sProp 𝕄) := by
  iintro H
  ihave H := (join l h) $$ H
  ihave H := (pointsTo_split_subset (fun i hi => mem_union_of (hU i hi))).1 $$ H
  icases H with ⟨H, -⟩
  iexact H

/-- The pieces of the result a device trades. -/
def outL (c : Dev nD) : List ((Fin 2 → ℕ) × (Fin 2 → ℕ)) :=
  [(![2048 * c.val, 0], ![2048, 1024]), (![2048 * (prv c).val, 0], ![1024, 1024]), (![2048 * (prv c).val + 1024, 0], ![1024, 1024]),
   (![2048 * (opp c).val, 0], ![2048, 1024]), (![2048 * (nxt c).val, 0], ![1024, 1024]), (![2048 * (nxt c).val + 1024, 0], ![1024, 1024])]
/-- The pieces of the gathered weights. -/
def wgL (c : Dev nD) : List ((Fin 3 → ℕ) × (Fin 3 → ℕ)) :=
  [(![c.val, 4096 * 0, 0], ![1, 4096, 1024]), (![c.val, 4096 * 1, 0], ![1, 4096, 1024]), (![(prv c).val, 4096 * 0, 0], ![1, 4096, 1024]), (![(prv c).val, 4096 * 1, 0], ![1, 4096, 1024]),
   (![(opp c).val, 4096 * 0, 0], ![1, 4096, 1024]), (![(opp c).val, 4096 * 1, 0], ![1, 4096, 1024]), (![(nxt c).val, 4096 * 0, 0], ![1, 4096, 1024]), (![(nxt c).val, 4096 * 1, 0], ![1, 4096, 1024])]
/-- The pieces of the staged results. -/
def resL (_ : Dev nD) : List ((Fin 3 → ℕ) × (Fin 3 → ℕ)) :=
  [(![1, 0, 0], ![1, 2048, 1024]), (![0, 0, 0], ![1, 1024, 1024]), (![0, 1024, 0], ![1, 1024, 1024]), (![2, 0, 0], ![1, 1024, 1024]), (![2, 1024, 0], ![1, 1024, 1024])]

theorem outL_apart (c : Dev nD) : (outL c).Pairwise apart := by revert c; decide +kernel
theorem wgL_apart (c : Dev nD) : (wgL c).Pairwise apart := by revert c; decide +kernel
theorem resL_apart (c : Dev nD) : (resL c).Pairwise apart := by revert c; decide +kernel

theorem boxes_disjoint {s : Shape} (l : List ((Fin s.rank → ℕ) × (Fin s.rank → ℕ))) (h : l.Pairwise apart) :
    (l.map fun p => (box p.1 p.2 : Finset s.Idx)).Pairwise Disjoint :=
  List.Pairwise.map _ (fun _ _ h => apart_disjoint h) h

theorem cut_out (c : Dev nD) : anyP (F := F) (at_ c main_v1_0) Finset.univ
    ⊢ iprop(outAny c (2048 * c.val) 2048 ∗ outAny c (2048 * (prv c).val) 1024 ∗ outAny c (2048 * (prv c).val + 1024) 1024
      ∗ outAny c (2048 * (opp c).val) 2048 ∗ outAny c (2048 * (nxt c).val) 1024 ∗ outAny c (2048 * (nxt c).val + 1024) 1024 ∗ emp) := by
  have H := cut (F := F) (ℓ := at_ c main_v1_0) ((outL c).map fun p => (box p.1 p.2 : Finset S8192x1024.Idx)) Finset.univ (fun _ _ => Finset.subset_univ _)
    (boxes_disjoint (s := S8192x1024) _ (outL_apart c))
  simp only [outL, List.map_cons, List.map_nil, pieces] at H
  unfold outAny outB
  exact H

theorem cut_wg (c : Dev nD) : anyP (F := F) (at_ c main_v1_1) Finset.univ
    ⊢ iprop(wgAny c c 0 ∗ wgAny c c 1 ∗ wgAny c (prv c) 0 ∗ wgAny c (prv c) 1 ∗ wgAny c (opp c) 0 ∗ wgAny c (opp c) 1
      ∗ wgAny c (nxt c) 0 ∗ wgAny c (nxt c) 1 ∗ emp) := by
  have H := cut (F := F) (ℓ := at_ c main_v1_1) ((wgL c).map fun p => (box p.1 p.2 : Finset S4x8192x1024.Idx)) Finset.univ (fun _ _ => Finset.subset_univ _)
    (boxes_disjoint (s := S4x8192x1024) _ (wgL_apart c))
  simp only [wgL, List.map_cons, List.map_nil, pieces] at H
  unfold wgAny wgB
  exact H

theorem cut_res (c : Dev nD) : anyP (F := F) (at_ c main_v1_3) Finset.univ
    ⊢ iprop(resAny c 1 0 2048 ∗ resAny c 0 0 1024 ∗ resAny c 0 1024 1024 ∗ resAny c 2 0 1024 ∗ resAny c 2 1024 1024 ∗ emp) := by
  have hd := boxes_disjoint (s := S3x2048x1024) _ (resL_apart c)
  have H := cut (F := F) (ℓ := at_ c main_v1_3) _ Finset.univ (fun _ _ => Finset.subset_univ _) hd
  simp only [resL, List.map_cons, List.map_nil, pieces] at H
  unfold resAny
  exact H

theorem out_cover (c : Dev nD) (i : S8192x1024.Idx) : ∃ D ∈ (outL c).map fun p => (box p.1 p.2 : Finset S8192x1024.Idx), i ∈ D := by
  have h0 : (i 0).val < 8192 := idx2_lt0 i
  have h1 : (i 1).val < 1024 := idx2_lt1 i
  have hc : c.val < 4 := c.isLt
  have hp : (prv c).val = (c.val + 3) % 4 := rfl
  have ho : (opp c).val = (c.val + 2) % 4 := rfl
  have hn : (nxt c).val = (c.val + 1) % 4 := rfl
  have H : ∀ r n, i ∈ (box ![r, 0] ![n, 1024] : Finset S8192x1024.Idx) ↔ r ≤ (i 0).val ∧ (i 0).val < r + n := by
    intro r n
    refine mem_box2.trans ⟨fun h => h.1, fun h => ⟨h, Nat.zero_le _, by show _ < 0 + 1024; omega⟩⟩
  simp only [outL, List.map_cons, List.map_nil, List.mem_cons, List.not_mem_nil, exists_eq_or_imp, exists_eq_left, false_and, exists_false, or_false, H]
  omega

theorem join_out (m : (ℓ : Loc nD τ sig) → Buf (Elt F) ℓ) (c : Dev nD) :
    iprop(outP m c (2048 * c.val) 2048 ∗ outP m c (2048 * (prv c).val) 1024 ∗ outP m c (2048 * (prv c).val + 1024) 1024
      ∗ outP m c (2048 * (opp c).val) 2048 ∗ outP m c (2048 * (nxt c).val) 1024 ∗ outP m c (2048 * (nxt c).val + 1024) 1024 ∗ emp)
    ⊢ (at_ c main_v1_0 ↦{fullShare} Out m c) := by
  have J := join_all (F := F) (ℓ := at_ c main_v1_0) (f := Out m c) ((outL c).map fun p => (box p.1 p.2 : Finset S8192x1024.Idx)) Finset.univ
    (boxes_disjoint (s := S8192x1024) _ (outL_apart c)) (fun i _ => out_cover c i)
  simp only [outL, List.map_cons, List.map_nil, held] at J
  unfold outP outB
  exact J
end Cut

end Cert.KProof

end
-- ==== Proof.Second.lean ====
/-
The second half of the body run through: from the device's own block on.
-/
module

public import proofs.«01_k».proof.Proof.Cuts

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Second
variable (m : (ℓ : Loc nD τ sig) → Buf (Elt F) ℓ) (c : Dev nD)

/-! ## What the second half needs and leaves -/

/-- The duty tokens still held: for the own sends, and for the cells of the others they land on. -/
def toks2 (c : Dev nD) : sProp 𝕄 := iprop(tokD c 1 ∗ tokD c 2 ∗ tokD c 7 ∗ tokD c 8 ∗ tokD c 12 ∗ tokD c 13 ∗ tokD c 14 ∗ tokD c 15 ∗ tokD c 16 ∗ tokD (nxt c) 4 ∗ tokD (nxt c) 5 ∗ tokD (nxt c) 17 ∗ tokD (nxt c) 18 ∗ tokD (prv c) 10 ∗ tokD (prv c) 11 ∗ tokD (prv c) 20 ∗ tokD (prv c) 21 ∗ tokD (opp c) 19)
/-- The places at the send cells not yet waited on. -/
def poss2 (c : Dev nD) : sProp 𝕄 := iprop(posS c (dS 1) ∗ posS c (dS 2) ∗ posS c (dS 7) ∗ posS c (dS 8) ∗ posS c (dS 12) ∗ posS c (dS 13) ∗ posS c (dS 14) ∗ posS c (dS 15) ∗ posS c (dS 16))
/-- The waits for what the others send. -/
def waits2 (c : Dev nD) : sProp 𝕄 := iprop(waitD c 3 ∗ waitD c 4 ∗ waitD c 5 ∗ waitD c 9 ∗ waitD c 10 ∗ waitD c 11 ∗ waitD c 17 ∗ waitD c 18 ∗ waitD c 19 ∗ waitD c 20 ∗ waitD c 21)
/-- The landing places at the others still unused. -/
def lands2 (c : Dev nD) : sProp 𝕄 := iprop(wgAny (nxt c) (prv c) 0 ∗ wgAny (nxt c) (opp c) 0 ∗ outAny (nxt c) (2048 * c.val) 1024 ∗ outAny (nxt c) (2048 * c.val + 1024) 1024 ∗ wgAny (prv c) (nxt c) 1 ∗ wgAny (prv c) (opp c) 1 ∗ outAny (prv c) (2048 * c.val) 1024 ∗ outAny (prv c) (2048 * c.val + 1024) 1024)
/-- The pieces of the staged results. -/
def ress2 (c : Dev nD) : sProp 𝕄 := iprop(resAny c 1 0 2048 ∗ resAny c 0 0 1024 ∗ resAny c 0 1024 1024 ∗ resAny c 2 0 1024 ∗ resAny c 2 1024 1024)
/-- All the DMA cells waited on, at zero. -/
def zeros (c : Dev nD) : sProp 𝕄 := iprop(semZ c 0 ∗ semZ c 1 ∗ semZ c 2 ∗ semZ c 3 ∗ semZ c 4 ∗ semZ c 5 ∗ semZ c 6 ∗ semZ c 7 ∗ semZ c 8 ∗ semZ c 9 ∗ semZ c 10 ∗ semZ c 11 ∗ semZ c 12 ∗ semZ c 13 ∗ semZ c 14 ∗ semZ c 15 ∗ semZ c 16 ∗ semZ c 17 ∗ semZ c 18 ∗ semZ c 19 ∗ semZ c 20 ∗ semZ c 21 ∗ semZ c 24)

/-- The second half of the body. -/
abbrev second (v2 v4 v6 v8 a b : BitVec 32) : Pg F PUnit :=
  p9 c v2 v4 v6 a b >>= fun _ => p10 c v2 v4 v6 >>= fun _ => p11 c v4 v6 >>= fun _ => p12 c v2 v4 v8 >>= fun _ => p13 c v4 v6 >>= fun _ =>
  p14 c v2 v6 >>= fun _ => p15 c v2 v4 v6 >>= fun _ => p16 c v2 v4 >>= fun _ => p17 c v2 v4 >>= fun _ => p18 c v2 v6 v8 >>= fun _ =>
  Prog.op (.waitDma2 ((cc0_scratch11.slice (Rect.unit (s := S5) ![4] S1.size inb_S5_S1_4)).squeeze S_ squeezes_S1_S_).sem
    (((Memref.whole main_v1_3).slice (Rect.unit (s := S3x2048x1024) ![0, 1024, 0] S1x1024x1024.size inb_S3x2048x1024_S1x1024x1024_0_1024_0) (fun _ => rfl)).squeeze S1024x1024 squeezes_S1x1024x1024_S1024x1024)
    ((Memref.whole main_v1_0).slice (Rect.unit (s := S8192x1024) (k0_off24 c 1#32 1024#32) S1024x1024.size (k0_off24_inb c 0 1)) (fun _ => rfl))
    ((View.wordExact_bits rfl).reshape _ _) (View.wordExact_bits rfl)) fun _ => Prog.ret ⟨⟩

theorem waitD_intro (e : Dev nD) (n : ℕ) (h : n < 25) : iprop(credD (F := F) e n h ∗ posS e (dS n h)) ⊢ waitD e n h := by
  unfold waitD; exact .rfl

theorem second_step (K : Dev nD × Fin 23 → ℕ) (v2 v4 v6 v8 a b : BitVec 32) :
    iprop(Recs m K ∗ work m c c ∗ outAny c (2048 * c.val) 2048 ∗ ress2 c ∗ lands2 c ∗ toks2 c ∗ waits2 c ∗ poss2 c ∗ waitD c 0 ∗ waitD c 6
        ∗ semZ c 24 ∗ owed c 4)
      ⊢ WP c (second c v2 v4 v6 v8 a b) fun _ => iprop(work m c (prv c) ∗ (at_ c main_v1_0 ↦{fullShare} Out m c) ∗ zeros c ∗ owed c 13) := by
  unfold ress2 lands2 toks2 waits2 poss2 second
  iintro ⟨#HR, W, O, ⟨r1, r0, s0, r2, s2⟩, ⟨a1, a2, a3, a4, b1, b2, b3, b4⟩, ⟨t1, t2, t7, t8, t12, t13, t14, t15, t16, u4, u5, u17, u18, u10, u11, u20, u21, u19⟩, ⟨w3, w4, w5, w9, w10, w11, w17, w18, w19, w20, w21⟩, ⟨p1, p2, p7, p8, p12, p13, p14, p15, p16⟩, w0, w6, z24, HO⟩
  iapply (part9_step m c K v2 v4 v6 a b) $$ [W O w0 w3 w6 HO]
  · isplitr; · iexact HR
    isplitl [W]; · iexact W
    isplitl [O]; · iexact O
    isplitl [w0]; · iexact w0
    isplitl [w3]; · iexact w3
    isplitl [w6]; · iexact w6
    iexact HO
  iintro ⟨W, o, gp0, od, z0, z3, z6, HO⟩
  iapply (part10_step m c K v2 v4 v6) $$ [w9 gp0 a1 t1 u4 b1 t7 u10 HO]
  · isplitr; · iexact HR
    isplitl [w9]; · iexact w9
    isplitl [gp0]; · iexact gp0
    isplitl [a1]; · iexact a1
    isplitl [t1]; · iexact t1
    isplitl [u4]; · iexact u4
    isplitl [b1]; · iexact b1
    isplitl [t7]; · iexact t7
    isplitl [u10]; · iexact u10
    iexact HO
  iintro ⟨z9, sp0, sn1, c1, c7, HO⟩
  ihave w1 := (waitD_intro c 1 (by decide)) $$ [c1 p1]
  · isplitl [c1]; · iexact c1
    iexact p1
  ihave w7 := (waitD_intro c 7 (by decide)) $$ [c7 p7]
  · isplitl [c7]; · iexact c7
    iexact p7
  iapply (part11_step m c K v4 v6) $$ [w1 w4 w7 w10 HO]
  · isplitr; · iexact HR
    isplitl [w1]; · iexact w1
    isplitl [w4]; · iexact w4
    isplitl [w7]; · iexact w7
    isplitl [w10]; · iexact w10
    iexact HO
  iintro ⟨z1, z4, z7, z10, go0, go1, HO⟩
  iapply (part12_step m c K v2 v4 v8) $$ [W go0 a2 t2 u5 go1 b2 t8 u11 z24 r1 HO]
  · isplitr; · iexact HR
    isplitl [W]; · iexact W
    isplitl [go0]; · iexact go0
    isplitl [a2]; · iexact a2
    isplitl [t2]; · iexact t2
    isplitl [u5]; · iexact u5
    isplitl [go1]; · iexact go1
    isplitl [b2]; · iexact b2
    isplitl [t8]; · iexact t8
    isplitl [u11]; · iexact u11
    isplitl [z24]; · iexact z24
    isplitl [r1]; · iexact r1
    iexact HO
  iintro ⟨W, c2, c8, z24, r1, HO⟩
  ihave w2 := (waitD_intro c 2 (by decide)) $$ [c2 p2]
  · isplitl [c2]; · iexact c2
    iexact p2
  ihave w8 := (waitD_intro c 8 (by decide)) $$ [c8 p8]
  · isplitl [c8]; · iexact c8
    iexact p8
  iapply (part13_step m c K v4 v6) $$ [r1 od t14 u19 w2 w5 w8 HO]
  · isplitr; · iexact HR
    isplitl [r1]; · iexact r1
    isplitl [od]; · iexact od
    isplitl [t14]; · iexact t14
    isplitl [u19]; · iexact u19
    isplitl [w2]; · iexact w2
    isplitl [w5]; · iexact w5
    isplitl [w8]; · iexact w8
    iexact HO
  iintro ⟨c14, z2, z5, z8, gn0, HO⟩
  iapply (part14_step m c K v2 v6) $$ [W w11 gn0 sn1 z24 r0 s0 a3 t12 u17 HO]
  · isplitr; · iexact HR
    isplitl [W]; · iexact W
    isplitl [w11]; · iexact w11
    isplitl [gn0]; · iexact gn0
    isplitl [sn1]; · iexact sn1
    isplitl [z24]; · iexact z24
    isplitl [r0]; · iexact r0
    isplitl [s0]; · iexact s0
    isplitl [a3]; · iexact a3
    isplitl [t12]; · iexact t12
    isplitl [u17]; · iexact u17
    iexact HO
  iintro ⟨W, z11, gp1, z24, s0, c12, HO⟩
  iapply (part15_step m c K v2 v4 v6) $$ [W s0 a4 t13 u18 sp0 gp1 z24 r2 s2 b3 t15 u20 HO]
  · isplitr; · iexact HR
    isplitl [W]; · iexact W
    isplitl [s0]; · iexact s0
    isplitl [a4]; · iexact a4
    isplitl [t13]; · iexact t13
    isplitl [u18]; · iexact u18
    isplitl [sp0]; · iexact sp0
    isplitl [gp1]; · iexact gp1
    isplitl [z24]; · iexact z24
    isplitl [r2]; · iexact r2
    isplitl [s2]; · iexact s2
    isplitl [b3]; · iexact b3
    isplitl [t15]; · iexact t15
    isplitl [u20]; · iexact u20
    iexact HO
  iintro ⟨W, z24, s2, c13, c15, HO⟩
  ihave w12 := (waitD_intro c 12 (by decide)) $$ [c12 p12]
  · isplitl [c12]; · iexact c12
    iexact p12
  ihave w13 := (waitD_intro c 13 (by decide)) $$ [c13 p13]
  · isplitl [c13]; · iexact c13
    iexact p13
  iapply (part16_step m c K v2 v4) $$ [s2 b4 t16 u21 w12 w13 HO]
  · isplitr; · iexact HR
    isplitl [s2]; · iexact s2
    isplitl [b4]; · iexact b4
    isplitl [t16]; · iexact t16
    isplitl [u21]; · iexact u21
    isplitl [w12]; · iexact w12
    isplitl [w13]; · iexact w13
    iexact HO
  iintro ⟨c16, z12, z13, HO⟩
  ihave w14 := (waitD_intro c 14 (by decide)) $$ [c14 p14]
  · isplitl [c14]; · iexact c14
    iexact p14
  ihave w15 := (waitD_intro c 15 (by decide)) $$ [c15 p15]
  · isplitl [c15]; · iexact c15
    iexact p15
  ihave w16 := (waitD_intro c 16 (by decide)) $$ [c16 p16]
  · isplitl [c16]; · iexact c16
    iexact p16
  iapply (part17_step m c K v2 v4) $$ [w14 w15 w16 w17 HO]
  · isplitr; · iexact HR
    isplitl [w14]; · iexact w14
    isplitl [w15]; · iexact w15
    isplitl [w16]; · iexact w16
    isplitl [w17]; · iexact w17
    iexact HO
  iintro ⟨z14, z15, z16, z17, op0, HO⟩
  iapply (part18_step m c K v2 v6 v8) $$ [w18 w19 w20 HO]
  · isplitr; · iexact HR
    isplitl [w18]; · iexact w18
    isplitl [w19]; · iexact w19
    isplitl [w20]; · iexact w20
    iexact HO
  iintro ⟨z18, z19, z20, op1, oo, on0, HO⟩
  iapply (wait_at m c 13 K 21 (by decide) (by decide) rfl rfl (by decide) (P := outP m c (2048 * (nxt c).val + 1024) 1024) rfl) $$ [w21 HO]
  · isplitr; · iexact HR
    isplitl [w21]; · iexact w21
    iexact HO
  iintro ⟨on1, z21, HO⟩
  iapply (ret_step (F := F) c)
  isplitl [W]; · iexact W
  isplitl [o op0 op1 oo on0 on1]
  · iapply (join_out m c)
    isplitl [o]; · iexact o
    isplitl [op0]; · iexact op0
    isplitl [op1]; · iexact op1
    isplitl [oo]; · iexact oo
    isplitl [on0]; · iexact on0
    isplitl [on1]; · iexact on1
    iempintro
  isplitr [HO]
  · unfold zeros
    isplitl [z0]; · iexact z0
    isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    isplitl [z13]; · iexact z13
    isplitl [z14]; · iexact z14
    isplitl [z15]; · iexact z15
    isplitl [z16]; · iexact z16
    isplitl [z17]; · iexact z17
    isplitl [z18]; · iexact z18
    isplitl [z19]; · iexact z19
    isplitl [z20]; · iexact z20
    isplitl [z21]; · iexact z21
    iexact z24
  iexact HO

end Second

end Cert.KProof

end
-- ==== Proof.Body.lean ====
/-
The whole body of one device.
-/
module

public import proofs.«01_k».proof.Proof.Second

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Body
variable (m : (ℓ : Loc nD τ sig) → Buf (Elt F) ℓ) (c : Dev nD)

/-! ## The own slot, quarter by quarter -/

theorem own_sub (a n r : ℕ) (h : a ≤ r) (h' : r + 2048 ≤ a + n) :
    (box ![c.val, r, 0] ![1, 2048, 1024] : Finset S4x8192x1024.Idx) ⊆ box ![c.val, a, 0] ![1, n, 1024] := by
  intro i hi
  have hi := mem_box3.mp hi
  have h1 := hi.2.1.1; have h2 := hi.2.1.2
  change r ≤ _ at h1; change _ < r + 2048 at h2
  exact mem_box3.mpr ⟨hi.1, ⟨by show a ≤ _; omega, by show _ < a + n; omega⟩, hi.2.2⟩

theorem own_grow (a n : ℕ) (i : S4x8192x1024.Idx) (hi : i ∈ (box ![c.val, a, 0] ![1, n + 2048, 1024] : Finset S4x8192x1024.Idx)) :
    i ∈ (box ![c.val, a, 0] ![1, n, 1024] : Finset S4x8192x1024.Idx) ∨ i ∈ (box ![c.val, a + n, 0] ![1, 2048, 1024] : Finset S4x8192x1024.Idx) := by
  have hi := mem_box3.mp hi
  have h1 := hi.2.1.1; have h2 := hi.2.1.2
  change a ≤ _ at h1; change _ < a + (n + 2048) at h2
  by_cases h : (i 1).val < a + n
  · exact Or.inl (mem_box3.mpr ⟨hi.1, ⟨h1, h⟩, hi.2.2⟩)
  · exact Or.inr (mem_box3.mpr ⟨hi.1, ⟨by show a + n ≤ _; omega, by show _ < a + n + 2048; omega⟩, hi.2.2⟩)

theorem own_none (a : ℕ) : (box ![c.val, a, 0] ![1, 0, 1024] : Finset S4x8192x1024.Idx) = ∅ :=
  Finset.eq_empty_of_forall_notMem fun i hi => by
    have h1 := (mem_box3.mp hi).2.1.1; have h2 := (mem_box3.mp hi).2.1.2
    change a ≤ _ at h1; change _ < a + 0 at h2; omega

theorem rows_none {r n : ℕ} : (box ![0, 0] ![0, n] : Finset (⟨2, ![r, n]⟩ : Shape).Idx) = ∅ :=
  Finset.eq_empty_of_forall_notMem fun i hi => by
    have h2 := (mem_box2.mp hi).1.2
    change _ < 0 + 0 at h2; omega

theorem rows_all {r n : ℕ} (i : (⟨2, ![r, n]⟩ : Shape).Idx) : i ∈ (box ![0, 0] ![r, n] : Finset (⟨2, ![r, n]⟩ : Shape).Idx) := by
  have h0 := idx2_lt0 i; have h1 := idx2_lt1 i
  exact mem_box2.mpr ⟨⟨Nat.zero_le _, by show _ < 0 + r; omega⟩, ⟨Nat.zero_le _, by show _ < 0 + n; omega⟩⟩

theorem dev_step {α : Type} {kk : Dev nD → Pg F α} {Q : α → sProp 𝕄} : WP c (Prog.op .deviceId kk) Q = WP c (kk c) Q := wp_deviceId ..

/-- One quarter of the own slot. -/
theorem own_quarter {α : Type} (k : ℕ) {Q : α → sProp 𝕄} (h n r0 : ℕ) (hr : r0 = 4096 * h + n) (hn : n ≤ 2048) {o1 o2 : Fin 2 → ℕ} {o3 : Fin 3 → ℕ}
    (ho1 : o1 = ![r0, 0]) (ho2 : o2 = ![r0, 0]) (ho3 : o3 = ![c.val, r0, 0])
    {pa : Vec F S2048x1024 .f32 → FVec F S2048x1024 .bf16} {pb : Vec F S2048x1024 .bf16 → FVec F S2048x1024 .bf16}
    (hpa : pa = k0_pay1) (hpb : pb = k0_pay2)
    {inb1 inb2 inb3 h1 h3 hq e1 e2 e3 e4 e5 f1 f2 f3 f4 f5 l1 l2 l3 l4 s1 s2 s3 s4} {kk : PUnit → Pg F α} :
    iprop(levAts L lv ∗ (at_ c main_arg1 ↦{fullShare} m (at_ c main_arg1)) ∗ anyP (at_ c cc0_scratch3) Finset.univ ∗ anyP (at_ c cc0_scratch4) Finset.univ
        ∗ filled (at_ c cc0_scratch5) Finset.univ (box ![0, 0] ![r0, 1024]) (Wb m c) ∗ filled (at_ c main_v1_1) (wgB c h) (box ![c.val, 4096 * h, 0] ![1, n, 1024]) (G m)
        ∗ semVal (kcell c (dS 22)) 0 ∗ semVal (kcell c (dS 23)) 0 ∗ owed c k)
      ⊢ iprop(((levAts L lv ∗ (at_ c main_arg1 ↦{fullShare} m (at_ c main_arg1)) ∗ anyP (at_ c cc0_scratch3) Finset.univ ∗ anyP (at_ c cc0_scratch4) Finset.univ
        ∗ filled (at_ c cc0_scratch5) Finset.univ (box ![0, 0] ![r0 + 2048, 1024]) (Wb m c) ∗ filled (at_ c main_v1_1) (wgB c h) (box ![c.val, 4096 * h, 0] ![1, n + 2048, 1024]) (G m)
        ∗ semVal (kcell c (dS 22)) 0 ∗ semVal (kcell c (dS 23)) 0 ∗ owed c k) -∗ WP c (kk ⟨⟩) Q)
        -∗ WP c (
          Prog.op (.enqueueDma ((Memref.whole main_arg1).slice (Rect.unit (s := S8192x1024) o1 S2048x1024.size inb1) h1)
            (.here (Memref.whole cc0_scratch3)) (.dma cc0_scratch12.sem) e1 e2 e3) fun _ =>
          Prog.op (.waitDma2 cc0_scratch12.sem ((Memref.whole main_arg1).slice (Rect.unit (s := S8192x1024) o1 S2048x1024.size inb1) h1)
            (Memref.whole cc0_scratch3) e4 e5) fun _ =>
          Prog.op (.load (Memref.whole cc0_scratch3) (Rect.unit (s := S2048x1024) ![0, 0] S2048x1024.size inb_S2048x1024_S2048x1024_0_0).toLoadRect l1) fun v =>
          Prog.op (.load (Memref.whole cc0_scratch4) (Rect.unit (s := S2048x1024) ![0, 0] S2048x1024.size inb_S2048x1024_S2048x1024_0_0).toLoadRect l2) fun _ =>
          Prog.op (.store (Memref.whole cc0_scratch4) (Rect.unit (s := S2048x1024) ![0, 0] S2048x1024.size inb_S2048x1024_S2048x1024_0_0) (pa v) Finset.univ s1 s2) fun _ =>
          Prog.op (.load (Memref.whole cc0_scratch4) (Rect.unit (s := S2048x1024) ![0, 0] S2048x1024.size inb_S2048x1024_S2048x1024_0_0).toLoadRect l3) fun v' =>
          Prog.op (.load (Memref.whole cc0_scratch5) (Rect.unit (s := S8192x1024) o2 S2048x1024.size inb2).toLoadRect l4) fun _ =>
          Prog.op (.store (Memref.whole cc0_scratch5) (Rect.unit (s := S8192x1024) o2 S2048x1024.size inb2) (pb v') Finset.univ s3 s4) fun _ =>
          Prog.op (.enqueueDma (Memref.whole cc0_scratch4) (.here (((Memref.whole main_v1_1).slice (Rect.unit (s := S4x8192x1024) o3 S1x2048x1024.size inb3) h3).squeeze S2048x1024 hq))
            (.dma cc0_scratch13.sem) f1 f2 f3) fun _ =>
          Prog.op (.waitDma2 cc0_scratch13.sem (Memref.whole cc0_scratch4) (((Memref.whole main_v1_1).slice (Rect.unit (s := S4x8192x1024) o3 S1x2048x1024.size inb3) h3).squeeze S2048x1024 hq)
            f4 f5) kk) Q) :=
  quarter_step m c k r0 ho1 ho2 ho3 hpa hpb (hr ▸ own_sub c (4096 * h) 4096 (4096 * h + n) (by omega) (by omega)) (hr ▸ own_grow c (4096 * h) n)

theorem start_own (h a : ℕ) : wgAny c c h ⊢ filled (at_ c main_v1_1) (wgB c h) (box ![c.val, a, 0] ![1, 0, 1024]) (G m) := by
  rw [own_none]; unfold wgAny; exact filled_none
theorem own_all (h : ℕ) : filled (at_ c main_v1_1) (wgB c h) (box ![c.val, 4096 * h, 0] ![1, 4096, 1024]) (G m)
    ⊢ at_ c main_v1_1 ↦[wgB c h]{fullShare} G m := filled_all fun _ h => h
theorem all_w : filled (at_ c cc0_scratch5) Finset.univ (box ![0, 0] ![8192, 1024]) (Wb m c) ⊢ at_ c cc0_scratch5 ↦{fullShare} Wb m c :=
  filled_all fun i _ => rows_all (r := 8192) (n := 1024) i
theorem all_x : filled (at_ c main_v1_2) Finset.univ (box ![0, 0] ![2048, 8192]) (Xb m c) ⊢ at_ c main_v1_2 ↦{fullShare} Xb m c :=
  filled_all fun i _ => rows_all (r := 2048) (n := 8192) i
theorem start_w : anyP (at_ c cc0_scratch5) Finset.univ ⊢ filled (at_ c cc0_scratch5) Finset.univ (box ![0, 0] ![0, 1024]) (Wb m c) := by
  rw [rows_none]; exact filled_none
theorem start_x : anyP (at_ c main_v1_2) Finset.univ ⊢ filled (at_ c main_v1_2) Finset.univ (box ![0, 0] ![0, 8192]) (Xb m c) := by
  rw [rows_none]; exact filled_none

theorem give_prev : iprop(wgAny (F := F) c (prv c) 0 ∗ wgAny c (opp c) 0 ∗ wgAny c (nxt c) 0 ∗ outAny c (2048 * (prv c).val) 1024
    ∗ outAny c (2048 * (prv c).val + 1024) 1024) ⊢ barT (prv c) := by
  unfold barT; rw [nxt_prv, prv_prv, opp_prv]

theorem give_next : iprop(wgAny (F := F) c (nxt c) 1 ∗ wgAny c (opp c) 1 ∗ wgAny c (prv c) 1 ∗ outAny c (2048 * (nxt c).val) 1024
    ∗ outAny c (2048 * (nxt c).val + 1024) 1024 ∗ outAny c (2048 * (opp c).val) 2048) ⊢ barF (nxt c) := by
  unfold barF; rw [prv_nxt, nxt_nxt, opp_nxt]

/-- A device's buffers at the start: the arguments at their contents, the others at any. -/
def bufs0 : sProp 𝕄 := iprop((at_ c main_arg0 ↦{fullShare} m (at_ c main_arg0)) ∗ (at_ c main_arg1 ↦{fullShare} m (at_ c main_arg1))
  ∗ anyP (at_ c main_v1_0) Finset.univ ∗ anyP (at_ c main_v1_1) Finset.univ ∗ anyP (at_ c main_v1_2) Finset.univ ∗ anyP (at_ c main_v1_3) Finset.univ)
/-- The vector memory a device works in, at any contents. -/
def scr (c : Dev nD) : sProp 𝕄 := iprop(anyP (at_ c cc0_scratch0) Finset.univ ∗ anyP (at_ c cc0_scratch1) Finset.univ ∗ anyP (at_ c cc0_scratch2) Finset.univ
  ∗ anyP (at_ c cc0_scratch3) Finset.univ ∗ anyP (at_ c cc0_scratch4) Finset.univ ∗ anyP (at_ c cc0_scratch5) Finset.univ)
/-- The duty tokens the first half uses. -/
def toks1 (c : Dev nD) : sProp 𝕄 := iprop(dutyTok ER (kcell (prv c) (.reg barS)) 0 true ∗ dutyTok ER (kcell (nxt c) (.reg barS)) 0 false
  ∗ tokD c 0 ∗ tokD (nxt c) 3 ∗ tokD c 6 ∗ tokD (prv c) 9)
/-- The wait at the own barrier cell, and the places at the first two send cells. -/
def poss1 (c : Dev nD) : sProp 𝕄 := iprop(cred (tallyAt (kcell c (.reg barS)) () 2) ∗ posS c (.reg barS) ∗ posS c (dS 0) ∗ posS c (dS 6))
/-- The cells of the local copies, at zero. -/
def zeros3 (c : Dev nD) : sProp 𝕄 := iprop(semZ c 22 ∗ semZ c 23 ∗ semZ c 24)

/-- What the body needs. -/
def before (K : Dev nD × Fin 23 → ℕ) : sProp 𝕄 := iprop(Recs m K ∗ bufs0 m c ∗ scr c ∗ toks1 c ∗ toks2 c ∗ poss1 c ∗ poss2 c ∗ waits2 c ∗ zeros3 c ∗ owed c 0)
/-- What the body leaves. -/
def done : sProp 𝕄 := iprop(((at_ c main_arg0 ↦{fullShare} m (at_ c main_arg0)) ∗ (at_ c main_arg1 ↦{fullShare} m (at_ c main_arg1))
  ∗ (at_ c main_v1_0 ↦{fullShare} Out m c)) ∗ scr c ∗ zeros c ∗ semZ c 22 ∗ semZ c 23 ∗ semVal (kcell c (.reg barS)) 0 ∗ owed c 13)

/-- The body after its first part. -/
def rest (d0 : Dev nD) (v2 v4 v6 v8 : BitVec 32) (v24 : FVec F S2048x1024 .bf16) : Pg F PUnit :=
  k0_part2 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v6 v24 >>= fun _ => k0_part3 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 >>= fun v72 => k0_part4 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 d0 v4 v72 >>= fun _ => k0_part5 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 >>= fun v119 =>
    k0_part6 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v119 >>= fun v141 => k0_part7 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 v141 >>= fun _ => k0_part8 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 >>= fun r => second d0 v2 v4 v6 v8 r.1 r.2

theorem body_eq : cc0_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 = k0_part1 (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 >>= fun r => rest r.1 r.2.1 r.2.2.1 r.2.2.2.1 r.2.2.2.2.1 r.2.2.2.2.2 := rfl

set_option maxHeartbeats 200000 in
theorem body_wp (K : Dev nD × Fin 23 → ℕ) :
    before m c K ⊢ WP c (cc0_body (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14) fun _ => done m c := by
  rw [body_eq, k0_part1_eq_skeleton]
  unfold k0_part1_skel
  simp only [semSignalWord, semWaitWord, Prog.lift, Prog.bind_op, Prog.bind_ret, Prog.bind_assoc, Prog.pure_eq_ret, dev_step]
  unfold rest
  rw [k0_part2_eq_skeleton, k0_part3_eq_skeleton, k0_part4_eq_skeleton, k0_part5_eq_skeleton, k0_part6_eq_skeleton,
    k0_part7_eq_skeleton, k0_part8_eq_skeleton]
  unfold k0_part2_skel k0_part3_skel k0_part4_skel k0_part5_skel k0_part6_skel k0_part7_skel k0_part8_skel
  simp only [Prog.lift, Prog.bind_op, Prog.bind_ret, Prog.bind_assoc, Prog.pure_eq_ret]
  unfold before bufs0 scr toks1 poss1 zeros3
  iintro ⟨#HR, ⟨A0, A1, out, wg, xb, res⟩, ⟨s0, s1, s2, s3, s4, s5⟩, ⟨tl, tr, t0, u3, t6, u9⟩, T2, ⟨cb, pb, p0, p6⟩, P2, W2, ⟨z22, z23, z24⟩, HO⟩
  ihave #Hl := (recs_lev m K) $$ HR
  ihave ⟨oc, op0, op1, oo, on0, on1, -⟩ := (cut_out c) $$ out
  ihave ⟨wc0, wc1, wp0, wp1, wo0, wo1, wn0, wn1, -⟩ := (cut_wg c) $$ wg
  ihave ⟨r1, r0, q0, r2, q2, -⟩ := (cut_res c) $$ res
  iapply (signal_step m c 0 K (show (⟨k0_dev1 c, k0_dev1_lt c⟩ : Dev nD) = prv c from Fin.ext (k0_dev1_eq c)) true rfl) $$ [tl wp0 wo0 wn0 op0 op1 HO]
  · isplitr; · iexact HR
    isplitl [tl]; · iexact tl
    isplitr [HO]
    · rw [if_pos rfl]
      iapply (give_prev c)
      isplitl [wp0]; · iexact wp0
      isplitl [wo0]; · iexact wo0
      isplitl [wn0]; · iexact wn0
      isplitl [op0]; · iexact op0
      iexact op1
    iexact HO
  iintro HO
  iapply (signal_step m c 1 K (show (⟨k0_dev2 c, k0_dev2_lt c⟩ : Dev nD) = nxt c from Fin.ext (k0_dev2_eq c)) false rfl) $$ [tr wn1 wo1 wp1 on0 on1 oo HO]
  · isplitr; · iexact HR
    isplitl [tr]; · iexact tr
    isplitr [HO]
    · rw [if_neg (by decide)]
      iapply (give_next c)
      isplitl [wn1]; · iexact wn1
      isplitl [wo1]; · iexact wo1
      isplitl [wp1]; · iexact wp1
      isplitl [on0]; · iexact on0
      isplitl [on1]; · iexact on1
      iexact oo
    iexact HO
  iintro HO
  iapply (bar_step m c 2 K (by decide)) $$ [cb pb HO]
  · isplitr; · iexact HR
    isplitl [cb]; · iexact cb
    isplitl [pb]; · iexact pb
    iexact HO
  iintro ⟨bT, bF, zb, HO⟩
  unfold barT barF
  icases bT with ⟨a0, a1, a2, a3, a4⟩
  icases bF with ⟨b0, b1, b2, b3, b4, bx⟩
  ihave s5 := (start_w m c) $$ s5
  ihave wg := (start_own m c 0 0) $$ wc0
  iapply (own_quarter m c 2 0 0 0 rfl (by decide) rfl rfl (k0_off1_eq c) rfl rfl) $$ [A1 s3 s4 s5 wg z22 z23 HO]
  · isplitr; · iexact Hl
    isplitl [A1]; · iexact A1
    isplitl [s3]; · iexact s3
    isplitl [s4]; · iexact s4
    isplitl [s5]; · iexact s5
    isplitl [wg]; · iexact wg
    isplitl [z22]; · iexact z22
    isplitl [z23]; · iexact z23
    iexact HO
  iintro ⟨-, A1, s3, s4, s5, wg, z22, z23, HO⟩
  iapply (own_quarter m c 2 0 2048 2048 rfl (by decide) rfl rfl (k0_off2_eq c) rfl rfl) $$ [A1 s3 s4 s5 wg z22 z23 HO]
  · isplitr; · iexact Hl
    isplitl [A1]; · iexact A1
    isplitl [s3]; · iexact s3
    isplitl [s4]; · iexact s4
    isplitl [s5]; · iexact s5
    isplitl [wg]; · iexact wg
    isplitl [z22]; · iexact z22
    isplitl [z23]; · iexact z23
    iexact HO
  iintro ⟨-, A1, s3, s4, s5, wg, z22, z23, HO⟩
  ihave wc0 := (own_all m c 0) $$ wg
  iapply (send_wg m c 2 K (show (⟨k0_dev3 c, k0_dev3_lt c⟩ : Dev nD) = nxt c from Fin.ext (k0_dev3_eq c)) 0 3
      (by decide) (by decide) (by decide) (by decide) rfl rfl c 0 (k0_off3_eq c) (k0_off3_eq c) (q := fullShare) (outAny (prv c) (2048 * (nxt c).val) 2048) rfl rfl
      (by show _ ⊢ iprop(wgP m (nxt c) (prv (nxt c)) 0 ∗ outAny (opp (nxt c)) (2048 * (nxt c).val) 2048); rw [prv_nxt, opp_nxt])) $$ [wc0 a0 bx t0 u3 HO]
  · isplitr; · iexact HR
    isplitl [wc0]; · iexact wc0
    isplitl [a0]; · iexact a0
    isplitl [bx]; · iexact bx
    isplitl [t0]; · iexact t0
    isplitl [u3]; · iexact u3
    iexact HO
  iintro ⟨c0, HO⟩
  ihave wg := (start_own m c 1 4096) $$ wc1
  iapply (own_quarter m c 3 1 0 4096 rfl (by decide) rfl rfl (k0_off4_eq c) rfl rfl) $$ [A1 s3 s4 s5 wg z22 z23 HO]
  · isplitr; · iexact Hl
    isplitl [A1]; · iexact A1
    isplitl [s3]; · iexact s3
    isplitl [s4]; · iexact s4
    isplitl [s5]; · iexact s5
    isplitl [wg]; · iexact wg
    isplitl [z22]; · iexact z22
    isplitl [z23]; · iexact z23
    iexact HO
  iintro ⟨-, A1, s3, s4, s5, wg, z22, z23, HO⟩
  iapply (own_quarter m c 3 1 2048 6144 rfl (by decide) rfl rfl (k0_off5_eq c) rfl rfl) $$ [A1 s3 s4 s5 wg z22 z23 HO]
  · isplitr; · iexact Hl
    isplitl [A1]; · iexact A1
    isplitl [s3]; · iexact s3
    isplitl [s4]; · iexact s4
    isplitl [s5]; · iexact s5
    isplitl [wg]; · iexact wg
    isplitl [z22]; · iexact z22
    isplitl [z23]; · iexact z23
    iexact HO
  iintro ⟨-, A1, s3, s4, s5, wg, z22, z23, HO⟩
  ihave wc1 := (own_all m c 1) $$ wg
  iapply (send_wg m c 3 K (show (⟨k0_dev4 c, k0_dev4_lt c⟩ : Dev nD) = prv c from Fin.ext (k0_dev4_eq c)) 6 9
      (by decide) (by decide) (by decide) (by decide) rfl rfl c 1 (k0_off6_eq c) (k0_off6_eq c) (q := fullShare) iprop(emp) rfl rfl
      (by show _ ⊢ wgP m (prv c) (nxt (prv c)) 1; rw [nxt_prv]; iintro ⟨H, -⟩; iexact H)) $$ [wc1 b0 t6 u9 HO]
  · isplitr; · iexact HR
    isplitl [wc1]; · iexact wc1
    isplitl [b0]; · iexact b0
    isplitr; · iempintro
    isplitl [t6]; · iexact t6
    isplitl [u9]; · iexact u9
    iexact HO
  iintro ⟨c6, HO⟩
  ihave s5 := (all_w m c) $$ s5
  ihave xb := (start_x m c) $$ xb
  iapply (x_step m c 4 0 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 256 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 512 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 768 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 1024 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 1280 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 1536 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  iapply (x_step m c 4 1792 rfl) $$ [A0 s2 s0 xb z22 z23 HO]
  · isplitr; · iexact Hl
    isplitl [A0]; · iexact A0
    isplitl [s2]; · iexact s2
    isplitl [s0]; · iexact s0
    isplitl [xb]; · iexact xb
    isplitl [z22]; · iexact z22
    isplitl [z23]; · iexact z23
    iexact HO
  iintro ⟨-, A0, s2, s0, xb, z22, z23, HO⟩
  ihave xb := (all_x m c) $$ xb
  ihave w0 := (waitD_intro c 0 (by decide)) $$ [c0 p0]
  · isplitl [c0]; · iexact c0
    iexact p0
  ihave w6 := (waitD_intro c 6 (by decide)) $$ [c6 p6]
  · isplitl [c6]; · iexact c6
    iexact p6
  ihave H := (second_step m c K _ _ _ _ _ _) $$ [xb s0 s1 s5 z22 z23 oc r1 r0 q0 r2 q2 a1 a2 a3 a4 b1 b2 b3 b4 T2 W2 P2 w0 w6 z24 HO]
  · isplitr; · iexact HR
    isplitl [xb s0 s1 s5 z22 z23]
    · unfold work
      isplitr; · iexact Hl
      isplitl [xb]; · iexact xb
      isplitl [s0]; · iexact s0
      isplitl [s1]; · iexact s1
      isplitl [s5]; · iexact s5
      isplitl [z22]; · iexact z22
      iexact z23
    isplitl [oc]; · iexact oc
    isplitl [r1 r0 q0 r2 q2]
    · unfold ress2
      isplitl [r1]; · iexact r1
      isplitl [r0]; · iexact r0
      isplitl [q0]; · iexact q0
      isplitl [r2]; · iexact r2
      iexact q2
    isplitl [a1 a2 a3 a4 b1 b2 b3 b4]
    · unfold lands2
      isplitl [a1]; · iexact a1
      isplitl [a2]; · iexact a2
      isplitl [a3]; · iexact a3
      isplitl [a4]; · iexact a4
      isplitl [b1]; · iexact b1
      isplitl [b2]; · iexact b2
      isplitl [b3]; · iexact b3
      iexact b4
    isplitl [T2]; · iexact T2
    isplitl [W2]; · iexact W2
    isplitl [P2]; · iexact P2
    isplitl [w0]; · iexact w0
    isplitl [w6]; · iexact w6
    isplitl [z24]; · iexact z24
    iexact HO
  iapply wp_wand $$ H
  iintro %_ ⟨W, out, Z, HO⟩
  unfold work done scr
  icases W with ⟨-, -, s0, s1, s5, z22, z23⟩
  isplitl [A0 A1 out]
  · isplitl [A0]; · iexact A0
    isplitl [A1]; · iexact A1
    iexact out
  isplitl [s0 s1 s2 s3 s4 s5]
  · isplitl [s0]; · iexact s0
    isplitl [s1]; · iexact s1
    isplitl [s2]; · iexact s2
    isplitl [s3]; · iexact s3
    isplitl [s4]; · iexact s4
    iapply anyP_intro; iexact s5
  isplitl [Z]; · iexact Z
  isplitl [z22]; · iexact z22
  isplitl [z23]; · iexact z23
  isplitl [zb]; · iexact zb
  iexact HO

end Body

end Cert.KProof

end
-- ==== Proof.Launch.lean ====
/-
The launch of the four devices: the shared cells' records made and dealt, the credits, and the run of the whole program.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation cellOf)

variable {F : FTy → Type} [FloatOps F]

local notation "𝕄" => MT nD τ sig Unit (Elt F) ℕ UU ℕ

section Launch
variable (m : (ℓ : Loc nD τ sig) → Buf (Elt F) ℓ) (ρ : Dev nD → PrngReg)

/-! ## The body as the launch takes it -/

/-- What a device starts with, but for the vector memory. -/
def start (c : Dev nD) : sProp 𝕄 :=
  iprop(∃ K, Recs m K ∗ bufs0 m c ∗ toks1 c ∗ toks2 c ∗ poss1 c ∗ poss2 c ∗ waits2 c ∗ zeros3 c)
/-- The arguments as they were and the result. -/
def ends (c : Dev nD) : sProp 𝕄 := iprop((at_ c main_arg0 ↦{fullShare} m (at_ c main_arg0)) ∗ (at_ c main_arg1 ↦{fullShare} m (at_ c main_arg1))
  ∗ (at_ c main_v1_0 ↦{fullShare} Out m c))
def Φ₀ (c : Dev nD) : sProp 𝕄 := iprop(start m c ∗ scr c)
def Φ₁ (c : Dev nD) : sProp 𝕄 := iprop(ends m c ∗ scr c ∗ zeros c ∗ semZ c 22 ∗ semZ c 23 ∗ semVal (kcell c (.reg barS)) 0)

def O₀ (c : Dev nD) : CellTallies nD τ sig Unit := due (debts c)

def dats (_ : Fin 1) (c : Dev nD) : Dat τ (Elt F) Unit ℕ UU ℕ cfg0 c where
  A w := (show Fin 0 from w).elim0
  after w _ := (show Fin 0 from w).elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem no_windows (Φ : Fin cfg0.W → sProp 𝕄) : bigSep Finset.univ Φ = iprop(emp) := by
  rw [show (Finset.univ : Finset (Fin cfg0.W)) = ∅ from rfl, bigSep_empty]; rfl

theorem body_obligation (c : Dev nD) : BodyObligation (dats (F := F) m 0 c) (defs₀ (F := F)) 𝒱₀ () Set.univ := fun t => by
  rw [fin_N0 t]
  rw [no_windows, no_windows]
  show iprop(Φ₀ m c ∗ (dats m 0 c).owesAt () t0_0.castSucc ∗ emp) ⊢ WP c (cc0_body (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14) fun _ => iprop(Φ₁ m c ∗ (dats m 0 c).owesAt () t0_0.succ ∗ emp)
  unfold Φ₀ start Dat.owesAt Pipeline.owesWithin
  iintro ⟨⟨⟨%K, HR, Hb, Ht, Ht', Hp, Hp', Hw, Hz⟩, Hs⟩, ⟨%W, %hW, HO⟩, -⟩
  ihave H := (body_wp m c K) $$ [HR Hb Ht Ht' Hp Hp' Hw Hz Hs HO]
  · unfold before owed
    isplitl [HR]; · iexact HR
    isplitl [Hb]; · iexact Hb
    isplitl [Hs]; · iexact Hs
    isplitl [Ht]; · iexact Ht
    isplitl [Ht']; · iexact Ht'
    isplitl [Hp]; · iexact Hp
    isplitl [Hp']; · iexact Hp'
    isplitl [Hw]; · iexact Hw
    isplitl [Hz]; · iexact Hz
    iexists W; iexact HO
  iapply wp_wand $$ H
  iintro %_ H
  unfold done owed Φ₁ ends
  icases H with ⟨H1, H2, H3, H4, H5, H6, ⟨%W', HO⟩⟩
  isplitr [HO]
  · isplitl [H1]; · iexact H1
    isplitl [H2]; · iexact H2
    isplitl [H3]; · iexact H3
    isplitl [H4]; · iexact H4
    isplitl [H5]; · iexact H5
    iexact H6
  isplitl [HO]
  · iexists W'
    isplitr; · ipureintro; exact fun _ _ => Or.inl trivial
    iexact HO
  iempintro

/-! ## The cells and the tokens -/

abbrev osem : Fin 25 → SemLoc sig := fun k => .dma k
theorem ownSemFacts : Pipeline.OwnSemFacts cfg0.spec osem := by decide

/-- The `k`-th shared cell of a device. -/
abbrev cellAt (p : Dev nD × Fin 23) : GSem nD τ sig := kcell p.1 (csem p.2)

theorem csem_injective : Function.Injective csem := by decide
theorem cellAt_injective : Function.Injective cellAt := by
  rintro ⟨c, k⟩ ⟨c', k'⟩ h
  have h1 : c = c' := by have := congrArg (fun g : GSem nD τ sig => g.1.1) h; exact this
  have h2 : k = k' := csem_injective (congrArg Prod.snd h)
  rw [h1, h2]
def shared : Finset (GSem nD τ sig) := Finset.univ.map ⟨cellAt, cellAt_injective⟩

abbrev tokAt (p : (Dev nD × Fin 23) × Bool) : GSem nD τ sig × ℕ × Bool := (cellAt p.1, 0, p.2)
theorem tokAt_injective : Function.Injective tokAt := by
  rintro ⟨p, b⟩ ⟨p', b'⟩ h
  have h1 : p = p' := cellAt_injective (congrArg Prod.fst h)
  have h2 : b = b' := congrArg (fun x : GSem nD τ sig × ℕ × Bool => x.2.2) h
  rw [h1, h2]
def minted : Finset (GSem nD τ sig × ℕ × Bool) := Finset.univ.map ⟨tokAt, tokAt_injective⟩

def u₀ : UU := (initOf (Pipeline.cells cfgs cellOf_inj) (Pipeline.launchToks cfgs cellOf_inj), (initOf shared minted, 1))

/-- The token of a duty at the `k`-th cell of device `e`. -/
abbrev tok (d : Bool) (e : Dev nD) (k : Fin 23) : sProp 𝕄 := dutyTok ER (kcell e (csem k)) 0 d
/-- All the shared cells of a device at once. -/
abbrev each (P : Dev nD → Fin 23 → sProp 𝕄) (c : Dev nD) : sProp 𝕄 := bigSep Finset.univ fun k => P c k

/-- What the launch deals a device before any tokens move. -/
def dealt (c : Dev nD) : sProp 𝕄 :=
  iprop(each (fun c k => roundState ER (Rd m) (kcell c (csem k)) 0) c ∗ each (fun c k => atPos ER (kcell c (csem k)) 0 ∅ 0) c
    ∗ each (fun c k => reached ER (kcell c (csem k)) 0) c ∗ each (tok false) c ∗ each (tok true) c)

omit [FloatOps F] in
theorem cells_each (Φ : GSem nD τ sig → sProp 𝕄) : bigSep shared Φ = bigSep Finset.univ (each fun c k => Φ (kcell c (csem k))) := by
  unfold shared; rw [bigSep_map, bigSep_univ_prod]; rfl
omit [FloatOps F] in
theorem toks_each : bigSep minted (fun x => (dutyTok ER x.1 x.2.1 x.2.2 : sProp 𝕄))
    = iprop(bigSep Finset.univ (each (F := F) (tok false)) ∗ bigSep Finset.univ (each (F := F) (tok true))) := by
  unfold minted
  rw [bigSep_map, bigSep_univ_prod,
    bigSep_congr (s := Finset.univ) (fun (p : Dev nD × Fin 23) _ => bigSep_univ_eq_bigSepL [false, true] (by decide) (by decide) _)]
  show bigSep Finset.univ (fun p : Dev nD × Fin 23 => iprop(tok false p.1 p.2 ∗ tok true p.1 p.2)) = _
  rw [bigSep_sep', bigSep_univ_prod, bigSep_univ_prod]

theorem fund : BI.own (ER (initOf shared minted)) ⊢ (|==> bigSep Finset.univ (dealt m) : sProp 𝕄) := by
  iintro HX
  imod (Rounds.fund ER (Rd m) shared minted) $$ HX with ⟨Hst, Hr, Hat, Htok⟩
  imodintro
  ihave Hst := (Entails.of_eq (cells_each fun g => roundState ER (Rd m) g 0)) $$ Hst
  ihave Hat := (Entails.of_eq (cells_each fun g => atPos ER g 0 ∅ 0)) $$ Hat
  ihave Hr := (Entails.of_eq (cells_each fun g => reached ER g 0)) $$ Hr
  ihave Htok := (Entails.of_eq (toks_each (F := F))) $$ Htok
  icases Htok with ⟨Hf, Ht⟩
  unfold dealt; simp only [bigSep_sep']
  isplitl [Hst]; · iexact Hst
  isplitl [Hat]; · iexact Hat
  isplitl [Hr]; · iexact Hr
  isplitl [Hf]; · iexact Hf
  iexact Ht

/-! ## The records made -/

omit [FloatOps F] in
theorem all23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [0, 1, 2, 3, 4, 5, 6, 7, 8, 9, 10, 11, 12, 13, 14, 15, 16, 17, 18, 19, 20, 21, 22] (by decide) (by decide) Φ

omit [FloatOps F] in
theorem ownSems_eq (c : Dev nD) : (Pipeline.ownSems0 (Ix := Unit) (Name := ℕ) (U := UU) (Lvl := ℕ) (Val := Elt F) (τ := τ) osem c : sProp 𝕄)
    = iprop(semZ c 0 ∗ semZ c 1 ∗ semZ c 2 ∗ semZ c 3 ∗ semZ c 4 ∗ semZ c 5 ∗ semZ c 6 ∗ semZ c 7 ∗ semZ c 8 ∗ semZ c 9 ∗ semZ c 10 ∗ semZ c 11 ∗ semZ c 12 ∗ semZ c 13 ∗ semZ c 14 ∗ semZ c 15 ∗ semZ c 16 ∗ semZ c 17 ∗ semZ c 18 ∗ semZ c 19 ∗ semZ c 20 ∗ semZ c 21 ∗ semZ c 22 ∗ semZ c 23 ∗ semZ c 24) := by
  rw [Pipeline.ownSems0_eq_of_list c osem [0, 1, 2, 3, 4, 5, 6, 7, 8, 9, 10, 11, 12, 13, 14, 15, 16, 17, 18, 19, 20, 21, 22, 23, 24] (by decide) (by decide)]; rfl
omit [FloatOps F] in
theorem unscopedSems_eq (c : Dev nD) : (unscopedSems0 c : sProp 𝕄) = semVal (kcell c (.reg barS)) 0 := by
  unfold unscopedSems0; rw [bigSep_eq_bigSepL_of_eq [SemLoc.reg barS] (by decide) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ iprop(each (F := F) (fun c k => semVal (kcell c (csem k)) 0) c ∗ zeros3 c) := by
  rw [ownSems_eq, unscopedSems_eq]
  unfold each zeros3
  rw [all23]
  iintro ⟨⟨h0, h1, h2, h3, h4, h5, h6, h7, h8, h9, h10, h11, h12, h13, h14, h15, h16, h17, h18, h19, h20, h21, h22, h23, h24⟩, hb⟩
  isplitr [h22 h23 h24]
  · skip
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    isplitl [h17]; · iexact h17
    isplitl [h18]; · iexact h18
    isplitl [h19]; · iexact h19
    isplitl [h20]; · iexact h20
    isplitl [h21]; · iexact h21
    iexact hb
  isplitl [h22]; · iexact h22
  isplitl [h23]; · iexact h23
  iexact h24

/-- A device's part once its cells' records stand. -/
def stood (c : Dev nD) : sProp 𝕄 :=
  iprop(each (fun c k => iprop(∃ κ : ℕ, cellInv ER (Rd m) κ (kcell c (csem k)))) c ∗ each (fun c k => atPos ER (kcell c (csem k)) 0 ∅ 0) c
    ∗ each (fun c k => reached ER (kcell c (csem k)) 0) c ∗ each (tok false) c ∗ each (tok true) c ∗ zeros3 c)

theorem stand (c : Dev nD) :
    iprop(Pipeline.ownSems0 (Ix := Unit) (Name := ℕ) (U := UU) (Lvl := ℕ) (Val := Elt F) (τ := τ) osem c ∗ unscopedSems0 c ∗ dealt m c)
      ⊢ |={Set.univ}=> stood m c := by
  unfold dealt stood
  iintro ⟨Hos, Hus, Hst, Hat, Hr, Hf, Ht⟩
  ihave Hv := (sems_eq (F := F) c) $$ [Hos Hus]
  · isplitl [Hos] <;> iassumption
  icases Hv with ⟨Hv, Hz⟩
  imod (show iprop(each (F := F) (fun c k => semVal (kcell c (csem k)) 0) c ∗ each (fun c k => roundState ER (Rd m) (kcell c (csem k)) 0) c)
      ⊢ (|={Set.univ}=> each (fun c k => iprop(∃ κ : ℕ, cellInv ER (Rd m) κ (kcell c (csem k)))) c : sProp 𝕄) from by
        unfold each
        rw [← bigSep_sep']
        exact (bigSep_mono fun k _ => (Rounds.body_intro ER (Rd m) (kcell c (csem k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Hf]; · iexact Hf
  isplitl [Ht]; · iexact Ht
  iexact Hz

/-! ## The tokens dealt to the devices that use them -/

def ring : Dev nD ≃ Dev nD := ⟨nxt, prv, prv_nxt, nxt_prv⟩
def across : Dev nD ≃ Dev nD := ⟨opp, opp, opp_opp, opp_opp⟩
/-- Whose `k`-th cell a device delivers to. -/
def whom (k : Fin 23) : Dev nD ≃ Dev nD := match k.val with
  | 3 => ring | 4 => ring | 5 => ring | 17 => ring | 18 => ring | 22 => ring
  | 9 => ring.symm | 10 => ring.symm | 11 => ring.symm | 20 => ring.symm | 21 => ring.symm
  | 19 => across
  | _ => Equiv.refl _

omit [FloatOps F] in
theorem toks_dealt (P : Dev nD → Fin 23 → sProp 𝕄) (σ : Fin 23 → Dev nD ≃ Dev nD) :
    bigSep Finset.univ (each P) = bigSep Finset.univ (each fun c k => P (σ k c) k) := by
  unfold each
  rw [bigSep_univ_comm (fun (c : Dev nD) k => P c k), bigSep_univ_comm (fun (c : Dev nD) k => P (σ k c) k)]
  exact bigSep_congr fun k _ => bigSep_univ_equiv (σ k) fun c => P c k

/-- A device's own part of what is dealt. -/
def lot (c : Dev nD) : sProp 𝕄 :=
  iprop(each (fun c k => atPos ER (kcell c (csem k)) 0 ∅ 0) c ∗ each (fun c k => tok false (whom k c) k) c ∗ each (fun c k => tok true (prv c) k) c ∗ zeros3 c)
/-- What all share: the records. -/
def known (K : Dev nD × Fin 23 → ℕ) : sProp 𝕄 :=
  iprop((bigSep Finset.univ fun p : Dev nD × Fin 23 => cellInv ER (Rd m) (K p) (kcell p.1 (csem p.2)))
    ∗ (bigSep Finset.univ fun p : Dev nD × Fin 23 => reached ER (kcell p.1 (csem p.2)) 0))
instance known_persistent (K : Dev nD × Fin 23 → ℕ) : BI.Persistent (known m K) := by unfold known; infer_instance
def given (c : Dev nD) : sProp 𝕄 := iprop(∃ K, known m K ∗ lot c)

theorem regroup : bigSep Finset.univ (stood m) ⊢ bigSep Finset.univ (given m) := by
  unfold stood
  simp only [bigSep_sep']
  rw [show (bigSep Finset.univ fun c => each (fun c k => iprop(∃ κ : ℕ, cellInv ER (Rd m) κ (kcell c (csem k)))) c : sProp 𝕄)
      = bigSep Finset.univ fun p : Dev nD × Fin 23 => iprop(∃ κ : ℕ, cellInv ER (Rd m) κ (kcell p.1 (csem p.2)))
      from (bigSep_univ_prod fun p : Dev nD × Fin 23 => iprop(∃ κ : ℕ, cellInv ER (Rd m) κ (kcell p.1 (csem p.2)))).symm,
    show (bigSep Finset.univ fun c => each (fun c k => reached ER (kcell c (csem k)) 0) c : sProp 𝕄)
      = bigSep Finset.univ fun p : Dev nD × Fin 23 => reached ER (kcell p.1 (csem p.2)) 0
      from (bigSep_univ_prod fun p : Dev nD × Fin 23 => reached ER (kcell p.1 (csem p.2)) 0).symm]
  iintro ⟨HI, Hat, #HR, Hf, Ht, Hz⟩
  ihave HK := (BI.bigSep_exists_pi Finset.univ (fun (p : Dev nD × Fin 23) (κ : ℕ) => (cellInv ER (Rd m) κ (kcell p.1 (csem p.2)) : sProp 𝕄))) $$ HI
  icases HK with ⟨%K, #HI⟩
  ihave Hf := (Entails.of_eq (toks_dealt (F := F) (tok false) whom)) $$ Hf
  ihave Ht := (Entails.of_eq (toks_dealt (F := F) (tok true) fun _ => ring.symm)) $$ Ht
  iapply ((sep_mono_left (BI.bigSep_of_persistent Finset.univ (known m K))).trans
    ((Entails.of_eq (bigSep_sep' Finset.univ (fun _ : Dev nD => known m K) (lot (F := F))).symm).trans
      (bigSep_mono fun c _ => show iprop(known m K ∗ lot c) ⊢ given m c from by
        unfold given; iintro H; iexists K; iexact H)))
  isplitr
  · unfold known; isplitl; · iexact HI
    iexact HR
  · unfold lot; simp only [bigSep_sep']
    isplitl [Hat]; · iexact Hat
    isplitl [Hf]; · iexact Hf
    isplitl [Ht]; · iexact Ht
    iexact Hz

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((bigSep_mono fun c _ => stand m c).trans (bigSep_fupd _ _)).trans (BI.fupd_mono (regroup m))

/-! ## The credits -/

theorem due_count (l : List (GSem nD τ sig)) (g : GSem nD τ sig) : due l g () = l.count g * semAmt g.2 := by
  induction l with
  | nil => rw [List.count_nil, Nat.zero_mul]; rfl
  | cons a l ih =>
    unfold due
    rw [Pi.add_apply, Finsupp.add_apply, ih, tallyAt_apply, List.count_cons]
    by_cases h : g = a
    · subst h; rw [if_pos ⟨rfl, rfl⟩, beq_self_eq_true, if_pos rfl, Nat.add_mul, Nat.one_mul]
    · rw [if_neg fun h' => h h'.1, if_neg (by simpa using fun h' => h h'.symm), Nat.add_zero, Nat.add_zero]

theorem launch_at (c : Dev nD) (s : SemLoc sig) (n : ℕ) (h : ∑ d, (debts d).count (kcell c s) = n) :
    tallyOn (kcell c s) (launchCredit (Pipeline.owing O₀) 0 (kcell c s)) = (tallyAt (kcell c s) () (n * semAmt s) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => due_count (debts d) (kcell c s)

theorem count_bar : ∀ c : Dev nD, ∑ d, (debts d).count (kcell c (.reg barS)) = 2 := by decide +kernel
theorem count_dma : ∀ (n : Fin 25), n ∈ ([3, 4, 5, 9, 10, 11, 17, 18, 19, 20, 21] : List (Fin 25)) → ∀ c : Dev nD, ∑ d, (debts d).count (kcell c (.dma n)) = 1 := by decide +kernel

omit [FloatOps F] in
theorem cred_dma (c : Dev nD) (n : ℕ) (h : n < 25) (hn : (⟨n, h⟩ : Fin 25) ∈ ([3, 4, 5, 9, 10, 11, 17, 18, 19, 20, 21] : List (Fin 25))) :
    (cred (tallyOn (kcell c (dS n h)) (launchCredit (Pipeline.owing O₀) 0 (kcell c (dS n h)))) : sProp 𝕄) ⊢ credD c n h := by
  rw [launch_at c (dS n h) 1 (count_dma ⟨n, h⟩ hn c), Nat.one_mul]; exact .rfl

omit [FloatOps F] in
theorem keep (Φ : SemLoc sig → sProp 𝕄) : bigSep Finset.univ Φ ⊢ iprop(Φ (.reg barS) ∗ Φ (dS 3) ∗ Φ (dS 4) ∗ Φ (dS 5) ∗ Φ (dS 9) ∗ Φ (dS 10) ∗ Φ (dS 11) ∗ Φ (dS 17) ∗ Φ (dS 18) ∗ Φ (dS 19) ∗ Φ (dS 20) ∗ Φ (dS 21)) := by
  have H : bigSep Finset.univ Φ ⊢ bigSep ([.reg barS, dS 3, dS 4, dS 5, dS 9, dS 10, dS 11, dS 17, dS 18, dS 19, dS 20, dS 21] : List (SemLoc sig)).toFinset Φ := bigSep_subset (Finset.subset_univ _)
  rw [bigSep_eq_bigSepL_of_eq [.reg barS, dS 3, dS 4, dS 5, dS 9, dS 10, dS 11, dS 17, dS 18, dS 19, dS 20, dS 21] rfl (by decide +kernel)] at H
  exact H
/-- The credits for a device's own cells. -/
def credits (c : Dev nD) : sProp 𝕄 := iprop(cred (tallyAt (kcell c (.reg barS)) () 2) ∗ credD c 3 ∗ credD c 4 ∗ credD c 5 ∗ credD c 9 ∗ credD c 10 ∗ credD c 11 ∗ credD c 17 ∗ credD c 18 ∗ credD c 19 ∗ credD c 20 ∗ credD c 21)
omit [FloatOps F] in
theorem creds (c : Dev nD) : (Pipeline.launchCred O₀ c : sProp 𝕄) ⊢ credits c := by
  unfold Pipeline.launchCred
  refine (keep fun s => cred (tallyOn (kcell c s) (launchCredit (Pipeline.owing O₀) 0 (kcell c s)))).trans ?_
  show iprop(cred (tallyOn (kcell c (.reg barS)) (launchCredit (Pipeline.owing O₀) 0 (kcell c (.reg barS)))) ∗ cred (tallyOn (kcell c (dS 3)) (launchCredit (Pipeline.owing O₀) 0 (kcell c (dS 3)))) ∗ cred (tallyOn (kcell c (dS 4)) (launchCredit (Pipeline.owing O₀) 0 (kcell c (dS 4)))) ∗ cred (tallyOn (kcell c (dS 5)) (launchCredit (Pipeline.owing O₀) 0 (kcell c (dS 5)))) ∗ cred (tallyOn (kcell c (dS 9)) (launchCredit (Pipeline.owing O₀) 0 (kcell c (dS 9)))) ∗ cred (tallyOn (kcell c (dS 10)) (launchCredit (Pipeline.owing O₀) 0 (kcell c (dS 10)))) ∗ cred (tallyOn (kcell c (dS 11)) (launchCredit (Pipeline.owing O₀) 0 (kcell c (dS 11)))) ∗ cred (tallyOn (kcell c (dS 17)) (launchCredit (Pipeline.owing O₀) 0 (kcell c (dS 17)))) ∗ cred (tallyOn (kcell c (dS 18)) (launchCredit (Pipeline.owing O₀) 0 (kcell c (dS 18)))) ∗ cred (tallyOn (kcell c (dS 19)) (launchCredit (Pipeline.owing O₀) 0 (kcell c (dS 19)))) ∗ cred (tallyOn (kcell c (dS 20)) (launchCredit (Pipeline.owing O₀) 0 (kcell c (dS 20)))) ∗ cred (tallyOn (kcell c (dS 21)) (launchCredit (Pipeline.owing O₀) 0 (kcell c (dS 21))))) ⊢ credits c
  unfold credits
  rw [launch_at c (.reg barS) 2 (count_bar c)]
  rw [show 2 * semAmt (SemLoc.reg barS) = 2 from by decide]
  iintro ⟨hb, h3, h4, h5, h9, h10, h11, h17, h18, h19, h20, h21⟩
  isplitl [hb]; · iexact hb
  isplitl [h3]; · iapply (cred_dma (F := F) c 3 _ (by decide)); iexact h3
  isplitl [h4]; · iapply (cred_dma (F := F) c 4 _ (by decide)); iexact h4
  isplitl [h5]; · iapply (cred_dma (F := F) c 5 _ (by decide)); iexact h5
  isplitl [h9]; · iapply (cred_dma (F := F) c 9 _ (by decide)); iexact h9
  isplitl [h10]; · iapply (cred_dma (F := F) c 10 _ (by decide)); iexact h10
  isplitl [h11]; · iapply (cred_dma (F := F) c 11 _ (by decide)); iexact h11
  isplitl [h17]; · iapply (cred_dma (F := F) c 17 _ (by decide)); iexact h17
  isplitl [h18]; · iapply (cred_dma (F := F) c 18 _ (by decide)); iexact h18
  isplitl [h19]; · iapply (cred_dma (F := F) c 19 _ (by decide)); iexact h19
  isplitl [h20]; · iapply (cred_dma (F := F) c 20 _ (by decide)); iexact h20
  iapply (cred_dma (F := F) c 21 _ (by decide)); iexact h21

/-! ## A device's start and end -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  rw [Pipeline.unscopedRestP_none, unscopedRest0_eq]
  unfold given known lot each
  rw [all23, all23]
  iintro ⟨⟨A0, A1, v0, v1, v2, v3⟩, #Hlev, Hcr, -, ⟨%K, ⟨#HI, #HR⟩, ⟨p0, p1, p2, p3, p4, p5, p6, p7, p8, p9, p10, p11, p12, p13, p14, p15, p16, p17, p18, p19, p20, p21, p22⟩, ⟨t0, t1, t2, t3, t4, t5, t6, t7, t8, t9, t10, t11, t12, t13, t14, t15, t16, t17, t18, t19, t20, t21, t22⟩, Ht, Hz⟩⟩
  ihave Hc := (creds (F := F) c) $$ Hcr
  unfold credits
  icases Hc with ⟨cb, c3, c4, c5, c9, c10, c11, c17, c18, c19, c20, c21⟩
  ihave tb := (show (bigSep Finset.univ fun k => tok true (prv c) k : sProp 𝕄) ⊢ tok true (prv c) 22 from bigSep_elim (Finset.mem_univ (22 : Fin 23))) $$ Ht
  imodintro
  isplitl
  · unfold start
    iexists K
    isplitr
    · unfold Recs
      isplitr; · iexact HI
      isplitr; · iexact HR
      iexact Hlev
    isplitl [A0 A1 v0 v1 v2 v3]
    · unfold bufs0
      isplitl [A0]; · iexact A0
      isplitl [A1]; · iexact A1
      isplitl [v0]; · iapply anyP_intro; iexact v0
      isplitl [v1]; · iapply anyP_intro; iexact v1
      isplitl [v2]; · iapply anyP_intro; iexact v2
      iapply anyP_intro; iexact v3
    isplitl [tb t22 t0 t3 t6 t9]
    · unfold toks1 tokD
      isplitl [tb]; · iexact tb
      isplitl [t22]; · iexact t22
      isplitl [t0]; · iexact t0
      isplitl [t3]; · iexact t3
      isplitl [t6]; · iexact t6
      iexact t9
    isplitl [t1 t2 t7 t8 t12 t13 t14 t15 t16 t4 t5 t17 t18 t10 t11 t20 t21 t19]
    · unfold toks2 tokD
      isplitl [t1]; · iexact t1
      isplitl [t2]; · iexact t2
      isplitl [t7]; · iexact t7
      isplitl [t8]; · iexact t8
      isplitl [t12]; · iexact t12
      isplitl [t13]; · iexact t13
      isplitl [t14]; · iexact t14
      isplitl [t15]; · iexact t15
      isplitl [t16]; · iexact t16
      isplitl [t4]; · iexact t4
      isplitl [t5]; · iexact t5
      isplitl [t17]; · iexact t17
      isplitl [t18]; · iexact t18
      isplitl [t10]; · iexact t10
      isplitl [t11]; · iexact t11
      isplitl [t20]; · iexact t20
      isplitl [t21]; · iexact t21
      iexact t19
    isplitl [cb p22 p0 p6]
    · unfold poss1 posS
      isplitl [cb]; · iexact cb
      isplitl [p22]; · iexact p22
      isplitl [p0]; · iexact p0
      iexact p6
    isplitl [p1 p2 p7 p8 p12 p13 p14 p15 p16]
    · unfold poss2 posS
      isplitl [p1]; · iexact p1
      isplitl [p2]; · iexact p2
      isplitl [p7]; · iexact p7
      isplitl [p8]; · iexact p8
      isplitl [p12]; · iexact p12
      isplitl [p13]; · iexact p13
      isplitl [p14]; · iexact p14
      isplitl [p15]; · iexact p15
      iexact p16
    isplitl [c3 p3 c4 p4 c5 p5 c9 p9 c10 p10 c11 p11 c17 p17 c18 p18 c19 p19 c20 p20 c21 p21]
    · unfold waits2 waitD posS
      isplitl [c3 p3]; · (isplitl [c3]; · iexact c3); iexact p3
      isplitl [c4 p4]; · (isplitl [c4]; · iexact c4); iexact p4
      isplitl [c5 p5]; · (isplitl [c5]; · iexact c5); iexact p5
      isplitl [c9 p9]; · (isplitl [c9]; · iexact c9); iexact p9
      isplitl [c10 p10]; · (isplitl [c10]; · iexact c10); iexact p10
      isplitl [c11 p11]; · (isplitl [c11]; · iexact c11); iexact p11
      isplitl [c17 p17]; · (isplitl [c17]; · iexact c17); iexact p17
      isplitl [c18 p18]; · (isplitl [c18]; · iexact c18); iexact p18
      isplitl [c19 p19]; · (isplitl [c19]; · iexact c19); iexact p19
      isplitl [c20 p20]; · (isplitl [c20]; · iexact c20); iexact p20
      isplitl [c21]; · iexact c21
      iexact p21
    iexact Hz
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  unfold scr anyP; iexact Hr

/-- What a device ends with. -/
def final (c : Dev nD) : sProp 𝕄 := iprop(unscopedSems0 c ∗ ends m c)

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems_eq]
  unfold Φ₁ final zeros
  rw [unscopedSems_eq]
  iintro ⟨He, Hr, ⟨h0, h1, h2, h3, h4, h5, h6, h7, h8, h9, h10, h11, h12, h13, h14, h15, h16, h17, h18, h19, h20, h21, h24⟩, h22, h23, hb⟩
  isplitl [hb He]
  · isplitl [hb]; · iexact hb
    iexact He
  isplitr [Hr]
  · skip
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    isplitl [h17]; · iexact h17
    isplitl [h18]; · iexact h18
    isplitl [h19]; · iexact h19
    isplitl [h20]; · iexact h20
    isplitl [h21]; · iexact h21
    isplitl [h22]; · iexact h22
    isplitl [h23]; · iexact h23
    iexact h24
  unfold scr anyP; iexact Hr

theorem waits (c : Dev nD) : (levAts L lv : sProp 𝕄) ⊢ Pipeline.cellsWaits cfgs (dats m) () 0 c :=
  Pipeline.cellsWaits_intro cfgs (dats m) () 0 c fun w _ _ => (show Fin 0 from w).elim0

omit [FloatOps F] in
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have H := pointsTo_read_all (Ix := Unit) (Name := ℕ) (U := UU) (Lvl := ℕ) ({()} : Finset Unit) (fun _ => ℓ) (fun _ => f) s'
  rw [bigSep_singleton] at H
  refine H.trans ?_
  iintro ⟨%h, HS⟩
  isplitr; · ipureintro; exact h () (Finset.mem_singleton_self _)
  iexact HS

/-! ## The run -/

/-- After the run: the arguments as they were, and the result. -/
def After (c : Dev nD) (s : MemSt nD τ sig (Elt F)) : Prop :=
  s.mem (at_ c main_arg0) = m (at_ c main_arg0) ∧ s.mem (at_ c main_arg1) = m (at_ c main_arg1) ∧ s.mem (at_ c main_v1_0) = Out m c

theorem run_main : θ_run defs (onTc (τ := τ) (main (F := F))) ⟨m, fun _ => 0, ρ⟩
    (fun r => (∀ c : Dev nD, After m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => (show Fin 0 from w).elim0) (harr := arr_whole0) (hstage := stage_whole0)
    (hshare := fun _ w => (show Fin 0 from w).elim0)
    (hdistinct := winFacts0.arr_inj)
    (O₀ := O₀) (howed₀ := fun _ => rfl) (howedN := fun _ => rfl)
    (L := L) (lv := lv) (hL := fun g h => if_neg h) (hwaits := waits m)
    (G := dealt m) (G' := given m) (u₀ := u₀)
    (hu₀ := by
      unfold u₀
      iintro Hu
      ihave H := (ownU_pair _ _) $$ Hu
      icases H with ⟨HP, HX⟩
      imod (show BI.own ((embR : Emb (UB × Counters) 𝕄) (initOf shared minted, 1)) ⊢ (|==> bigSep Finset.univ (dealt m) : sProp 𝕄) from fund m) $$ HX with HG
      imodintro
      isplitl [HP] <;> iassumption)
    (hglob := glob m)
    (hA := fun _ w => (show Fin 0 from w).elim0) (hpf := fun _ k => k.elim0)
    (X := start m) (Y := final m) (Z := fun _ => iprop(emp))
    (hX := start_intro m ρ) (hin := phi0_intro m) (hout := phi1_exit m)
    (QY := fun c s => After m c s ∧ ∀ sm : SemLoc sig, sm.isScoped .tc = false → s.sem ((c.tc : Thread nD τ), sm) = 0)
    (hY := fun c s' => by
      unfold final ends
      iintro ⟨⟨Hu, H0, H1, H2⟩, -, HSI⟩
      ihave ⟨%h0, HSI⟩ := (read_one _ _ s') $$ [H0 HSI]
      · isplitl [H0] <;> iassumption
      ihave ⟨%h1, HSI⟩ := (read_one _ _ s') $$ [H1 HSI]
      · isplitl [H1] <;> iassumption
      ihave ⟨%h2, HSI⟩ := (read_one _ _ s') $$ [H2 HSI]
      · isplitl [H2] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨⟨h0, h1, h2⟩, hs⟩
      iexact HSI)
    (hQ := fun _ h hs => ⟨fun c => (h c).2.2.1, sem_eq_zero hs fun c => (h c).2.2.2⟩)

end Launch

end Cert.KProof

end
-- ==== Proof.Value.lean ====
/-
The value of the result at exact arithmetic: each device's result is its block of the reference's.
-/
module

public import proofs.«01_k».proof.Proof.Launch
public import proofs.«01_k».proof.ReferenceIdeal
public import proofs.«01_k».proof.Proof.Gen.ReferenceIdeal
public import Idealize.ShloMosaic.Lib.Pointwise
public import Idealize.ShloMosaic.Lib.Layout

@[expose] public section

set_option maxRecDepth 16384

noncomputable section

namespace Cert.KProof

open Idealize.ShloMosaic Idealize.ShloMosaic.TcCoe Idealize.SL.Sem

/-- The gelu of a product's element, by the tanh. -/
def act (y : EReal) : EReal :=
  Ideal.ofBits .f32 0x3F000000#32 * y
    * (1 + Ideal.tanh (Ideal.ofBits .f32 0x3F4C422A#32 * (y + Ideal.ofBits .f32 0x3D372713#32 * (y * y * y))))

section Kernel
open Cert.KernelIdeal Cert.KernelIdeal.Gen

/-- What the kernel's product of a row tile and a device's weights holds. -/
theorem pay_apply (a : Vec Ideal S512x8192 .bf16) (b : Vec Ideal S8192x1024 .bf16) (j0 : Fin 512) (j1 : Fin 1024) :
    k0_pay20 a b (ix2 j0 j1) = act (∑ k : Fin 8192, a (ix2 j0 k) * b (ix2 k j1)) := by
  unfold act
  pointwise [k0_pay20]
  rw [mul_assoc (Ideal.ofBits .f32 0x3D372713#32), mul_assoc (Ideal.ofBits .f32 0x3D372713#32)]

end Kernel

/-- The reference's result. -/
def ref (x : Cert.ReferenceIdeal.S8192x8192.Idx → Ideal .f32) (w : Cert.ReferenceIdeal.S8192x4096.Idx → Ideal .f32) :
    Cert.ReferenceIdeal.S8192x4096.Idx → Ideal .f32 := fun i => act (∑ k : Fin 8192, x (ix2 (i 0) k) * w (ix2 k (i 1)))

section Reference
open Cert.ReferenceIdeal Cert.ReferenceIdeal.Gen

/-- The reference's composed term is that. -/
theorem ref_eq (x : FVec Ideal S8192x8192 .f32) (w : FVec Ideal S8192x4096 .f32) :
    mulf (mulf (broadcastInDim S8192x4096 ![] bcast_S_S8192x4096 (constant S_ .f32 0x3F000000#32)) (Host.dotGeneral dot_S8192x8192_S8192x4096_S8192x4096_1_0_0_1_n_n none x w)) (addf (broadcastInDim S8192x4096 ![] bcast_S_S8192x4096 (constant S_ .f32 0x3F800000#32)) (Host.tanh (mulf (broadcastInDim S8192x4096 ![] bcast_S_S8192x4096 (constant S_ .f32 0x3F4C422A#32)) (addf (Host.dotGeneral dot_S8192x8192_S8192x4096_S8192x4096_1_0_0_1_n_n none x w) (mulf (broadcastInDim S8192x4096 ![] bcast_S_S8192x4096 (constant S_ .f32 0x3D372713#32)) (mulf (mulf (Host.dotGeneral dot_S8192x8192_S8192x4096_S8192x4096_1_0_0_1_n_n none x w) (Host.dotGeneral dot_S8192x8192_S8192x4096_S8192x4096_1_0_0_1_n_n none x w)) (Host.dotGeneral dot_S8192x8192_S8192x4096_S8192x4096_1_0_0_1_n_n none x w)))))))
      = ref x w := by
  funext i
  idx_vars i
  unfold ref act
  pointwise
end Reference

section Blocks
open Cert.KernelIdeal Cert.KernelIdeal.Gen
variable (m : (ℓ : Loc nD τ sig) → Buf (Elt Ideal) ℓ)
  (x : Cert.ReferenceIdeal.S8192x8192.Idx → Ideal .f32) (w : Cert.ReferenceIdeal.S8192x4096.Idx → Ideal .f32)

/-- Device `c`'s result, of its block of the whole `x` and of `w`. -/
theorem out_eq
    (hx : ∀ e : Dev nD, Xf m e = Layout.block ⟨2, ![2048, 8192]⟩ ⟨2, ![8192, 8192]⟩ 0 4 e x)
    (hw : ∀ e : Dev nD, Wf m e = Layout.block ⟨2, ![8192, 1024]⟩ ⟨2, ![8192, 4096]⟩ 1 4 e w) (c : Dev nD) :
    Out m c = Layout.block ⟨2, ![8192, 1024]⟩ ⟨2, ![8192, 4096]⟩ 1 4 c (ref x w) := by
  funext i
  idx_vars i
  rw [Layout.block_apply]
  unfold Out Y T
  refine (pay_apply _ _ _ _).trans ?_
  unfold ref
  refine congrArg act (Finset.sum_congr rfl fun k _ => ?_)
  unfold tile Xb Wb
  rw [hx, hw]
  refine congrArg₂ (· * ·) ?_ ?_
  · show x _ = x _
    refine congrArg x (funext fun a => Fin.ext ?_)
    match a with
    | 0 =>
      show i0.val / 2048 * 2048 + (512 * (i0.val % 2048 / 512) + i0.val % 2048 % 512) = i0.val
      omega
    | 1 => rfl
  · show w _ = w _
    refine congrArg w (funext fun a => Fin.ext ?_)
    match a with
    | 0 => rfl
    | 1 => rfl
end Blocks

end Cert.KProof

end
-- ==== Proof.lean ====
/-
The claim: the frames, the idealization and the value of the result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel as printed: the same text, at the machine's own float values. -/
theorem frame_p : Cert.quiescent_Kernel := fun m ρ _ =>
  (θ_run Cert.KernelIdeal.defs _ _).mono (fun _ h => ⟨fun c => ⟨(h.1 c).1, (h.1 c).2.1⟩, h.2⟩) (Cert.KProof.run_main (F := Bits) m ρ)

/-- The kernel over exact values. -/
theorem frame_pi : Cert.quiescent_KernelIdeal := fun m ρ _ =>
  (θ_run Cert.KernelIdeal.defs _ _).mono (fun _ h => ⟨fun c => ⟨(h.1 c).1, (h.1 c).2.1⟩, h.2⟩) (Cert.KProof.run_main (F := Ideal) m ρ)

/-- The reference: its run leaves its arguments alone, and it has no semaphore. -/
theorem frame_ri : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The reference's result is the gelu of the whole product; each device's result is its columns of that. -/
theorem value : Cert.algebraic_KernelIdeal_ReferenceIdeal := by
  intro m ρ m' ρ' _ hagree
  refine ⟨Cert.KProof.ref (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).2.2.trans (Cert.KProof.out_eq m _ _ (fun e => (hagree e).1) (fun e => (hagree e).2) c),
        (h.1 c).1, (h.1 c).2.1⟩)
      (Cert.KProof.run_main (F := Ideal) m ρ)
  · exact (θ_run Cert.ReferenceIdeal.defs _ _).mono
      (fun _ h => ⟨(h 0).1.trans (Cert.KProof.ref_eq _ _), (h 0).2.1, (h 0).2.2⟩)
      (Cert.ReferenceIdeal.Value.run (F := Ideal) m' ρ')

theorem claim : Cert.Claim :=
  ⟨Cert.Kernel.Gen.facts, Cert.KernelIdeal.Gen.facts, Cert.ReferenceIdeal.Gen.facts, frame_p, frame_pi, frame_ri, trivial, value⟩

end Cert.Proof

end
